-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x19x512x512 : Shape := ⟨4, ![8, 19, 512, 512]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel

variable [Facts]

def fn {F : FTy → Type} [FloatOps F] (main_arg0 : FVec F S8x19x512x512 .f32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  main_v3
-- ==== Kernel.lean ====
abbrev S8x19x512x512 : Shape := ⟨4, ![8, 19, 512, 512]⟩
abbrev S1x1 : Shape := ⟨2, ![1, 1]⟩
abbrev S1x19x256x512 : Shape := ⟨4, ![1, 19, 256, 512]⟩
abbrev S10x8x512 : Shape := ⟨3, ![10, 8, 512]⟩
abbrev S20x8x512 : Shape := ⟨3, ![20, 8, 512]⟩
abbrev S1x1x8x512 : Shape := ⟨4, ![1, 1, 8, 512]⟩
abbrev S8x512 : Shape := ⟨2, ![8, 512]⟩
abbrev S1x8x512 : Shape := ⟨3, ![1, 8, 512]⟩
abbrev S10 : Shape := ⟨1, ![10]⟩
abbrev S10x1x1 : Shape := ⟨3, ![10, 1, 1]⟩
abbrev S10x1 : Shape := ⟨2, ![10, 1]⟩
abbrev S9x1x1 : Shape := ⟨3, ![9, 1, 1]⟩
abbrev S9x1 : Shape := ⟨2, ![9, 1]⟩
abbrev S20 : Shape := ⟨1, ![20]⟩
abbrev S20x1x1 : Shape := ⟨3, ![20, 1, 1]⟩
abbrev S20x1 : Shape := ⟨2, ![20, 1]⟩
abbrev S1 : Shape := ⟨1, ![1]⟩
abbrev S_ : Shape := ⟨0, ![]⟩

abbrev nBuf : Space → Nat
  | .hbm => 3
  | .vmem => 5
  | .smem => 0
  | _ => 0

abbrev bufTy : (tb : Table) → Fin (tcTables nBuf tb) → BufTy
  | .hbm, ⟨0, _⟩ => ⟨S8x19x512x512, .f32⟩
  | .hbm, ⟨1, _⟩ => ⟨S1x1, .f32⟩
  | .hbm, ⟨2, _⟩ => ⟨S_, .f32⟩
  | .local _ .vmem, ⟨0, _⟩ => ⟨S1x19x256x512, .f32⟩
  | .local _ .vmem, ⟨1, _⟩ => ⟨S1x19x256x512, .f32⟩
  | .local _ .vmem, ⟨2, _⟩ => ⟨S1x1, .f32⟩
  | .local _ .vmem, ⟨3, _⟩ => ⟨S10x8x512, .f32⟩
  | .local _ .vmem, ⟨4, _⟩ => ⟨S20x8x512, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v17411 : BitVec 1 := Scalar.cmpi .eq arg0 c15_i32
  let v17412 : BitVec 32 := Scalar.extui v17411
  let c0_i32_13167 : BitVec 32 := 0#32
  let v17413 : BitVec 1 := Scalar.cmpi .ne v17412 c0_i32_13167
  v17413

def cc0_transform_0 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x19x512x512 : Shape := ⟨4, ![8, 19, 512, 512]⟩
abbrev S_ : Shape := ⟨0, ![]⟩
abbrev S8x512x512 : Shape := ⟨3, ![8, 512, 512]⟩
abbrev S8x1x512x512 : Shape := ⟨4, ![8, 1, 512, 512]⟩
abbrev S2097152 : Shape := ⟨1, ![2097152]⟩
abbrev S19 : Shape := ⟨1, ![19]⟩
abbrev S2097152x1 : Shape := ⟨2, ![2097152, 1]⟩
abbrev S8x1x512x512x1 : Shape := ⟨5, ![8, 1, 512, 512, 1]⟩

abbrev nBuf : Space → Nat
  | .hbm => 66
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S_, .f32⟩
  | .hbm, ⟨2, _⟩ => ⟨S8x512x512, .f32⟩
  | .hbm, ⟨3, _⟩ => ⟨S_, .f32⟩
  | .hbm, ⟨4, _⟩ => ⟨S8x512x512, .f32⟩
  | .hbm, ⟨5, _⟩ => ⟨S8x512x512, .f32⟩
  | .hbm, ⟨6, _⟩ => ⟨S8x1x512x512, .f32⟩
  | .hbm, ⟨7, _⟩ => ⟨S8x19x512x512, .f32⟩
  | .hbm, ⟨8, _⟩ => ⟨S8x19x512x512, .f32⟩
  | .hbm, ⟨9, _⟩ => ⟨S8x19x512x512, .f32⟩
  | .hbm, ⟨10, _⟩ => ⟨S_, .f32⟩
  | .hbm, ⟨11, _⟩ => ⟨S8x512x512, .f32⟩
  | .hbm, ⟨12, _⟩ => ⟨S8x1x512x512, .f32⟩
  | .hbm, ⟨13, _⟩ => ⟨S8x19x512x512, .f32⟩
  | .hbm, ⟨14, _⟩ => ⟨S8x19x512x512, .f32⟩
  | .hbm, ⟨15, _⟩ => ⟨S8x19x512x512, .i32⟩
  | .hbm, ⟨16, _⟩ => ⟨S_, .f32⟩
  | .hbm, ⟨17, _⟩ => ⟨S_, .i32⟩
  | .hbm, ⟨18, _⟩ => ⟨S8x512x512, .f32⟩
  | .hbm, ⟨19, _⟩ => ⟨S8x512x512, .i32⟩
  | .hbm, ⟨20, _⟩ => ⟨S8x1x512x512, .i32⟩
  | .hbm, ⟨21, _⟩ => ⟨S2097152, .i32⟩
  | .hbm, ⟨22, _⟩ => ⟨S_, .i32⟩
  | .hbm, ⟨23, _⟩ => ⟨S19, .i32⟩
  | .hbm, ⟨24, _⟩ => ⟨S_, .i32⟩
  | .hbm, ⟨25, _⟩ => ⟨S_, .i32⟩
  | .hbm, ⟨26, _⟩ => ⟨S2097152, .i32⟩
  | .hbm, ⟨27, _⟩ => ⟨S2097152, .i32⟩
  | .hbm, ⟨28, _⟩ => ⟨S_, .i32⟩
  | .hbm, ⟨29, _⟩ => ⟨S2097152, .i32⟩
  | .hbm, ⟨30, _⟩ => ⟨S2097152, .i1⟩
  | .hbm, ⟨31, _⟩ => ⟨S_, .i32⟩
  | .hbm, ⟨32, _⟩ => ⟨S2097152, .i32⟩
  | .hbm, ⟨33, _⟩ => ⟨S2097152, .i32⟩
  | .hbm, ⟨34, _⟩ => ⟨S2097152, .i32⟩
  | .hbm, ⟨35, _⟩ => ⟨S2097152x1, .i32⟩
  | .hbm, ⟨36, _⟩ => ⟨S_, .i32⟩
  | .hbm, ⟨37, _⟩ => ⟨S2097152, .i32⟩
  | .hbm, ⟨38, _⟩ => ⟨S19, .i32⟩
  | .hbm, ⟨39, _⟩ => ⟨S19, .f32⟩
  | .hbm, ⟨40, _⟩ => ⟨S_, .f32⟩
  | .hbm, ⟨41, _⟩ => ⟨S19, .f32⟩
  | .hbm, ⟨42, _⟩ => ⟨S19, .f32⟩
  | .hbm, ⟨43, _⟩ => ⟨S_, .f32⟩
  | .hbm, ⟨44, _⟩ => ⟨S19, .f32⟩
  | .hbm, ⟨45, _⟩ => ⟨S19, .f32⟩
  | .hbm, ⟨46, _⟩ => ⟨S_, .f32⟩
  | .hbm, ⟨47, _⟩ => ⟨S19, .f32⟩
  | .hbm, ⟨48, _⟩ => ⟨S19, .f32⟩
  | .hbm, ⟨49, _⟩ => ⟨S_, .i32⟩
  | .hbm, ⟨50, _⟩ => ⟨S8x1x512x512, .i32⟩
  | .hbm, ⟨51, _⟩ => ⟨S8x1x512x512, .i1⟩
  | .hbm, ⟨52, _⟩ => ⟨S_, .i32⟩
  | .hbm, ⟨53, _⟩ => ⟨S8x1x512x512, .i32⟩
  | .hbm, ⟨54, _⟩ => ⟨S8x1x512x512, .i32⟩
  | .hbm, ⟨55, _⟩ => ⟨S8x1x512x512, .i32⟩
  | .hbm, ⟨56, _⟩ => ⟨S8x1x512x512x1, .i32⟩
  | .hbm, ⟨57, _⟩ => ⟨S8x1x512x512, .f32⟩
  | .hbm, ⟨58, _⟩ => ⟨S8x19x512x512, .f32⟩
  | .hbm, ⟨59, _⟩ => ⟨S8x19x512x512, .f32⟩
  | .hbm, ⟨60, _⟩ => ⟨S8x19x512x512, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_cst : Ref sig .tc := ⟨.hbm, 16, rfl⟩
abbrev main_call0_c : Ref sig .tc := ⟨.hbm, 17, rfl⟩
abbrev main_call0_v1_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_c_9 : Ref sig .tc := ⟨.hbm, 49, rfl⟩
abbrev main_v31 : Ref sig .tc := ⟨.hbm, 50, rfl⟩
abbrev main_v32 : Ref sig .tc := ⟨.hbm, 51, rfl⟩
abbrev main_c_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Proof.Body.lean ====
/- The body of one grid point, written as the loops it was unrolled from.

   A grid point sees a block of 19 × 256 × 512 logits. It walks through the block in 32 chunks of 8 rows. In a chunk
   it first runs over the 19 classes, two at a time, for the largest logit, the sum of the exponentials and the sum
   of their squares; then again, two at a time, to find the first class that reaches the largest logit, and adds to
   two scratch arrays: hits to the slab of the pair of classes, the sum of squared probabilities to the slab of the
   class. The programs below pass the rest of the program along as an argument. -/
module

public import Idealize.ShloMosaic.Lib.Pipeline
public import Idealize.ShloMosaic.Lib.Scf
public import Idealize.ShloMosaic.Lib.Sig
public import Idealize.ShloMosaic.Lib.StableHlo
public import Idealize.ShloMosaic.PureOps
public import Idealize.ShloMosaic.PureOps.Ideal

@[expose] public section

noncomputable section

namespace Cert.Msiw

open Idealize.ShloMosaic Idealize.SL.Sem

/-- The block of logits of a grid point. -/
abbrev SX : Shape := ⟨4, ![1, 19, 256, 512]⟩
/-- One chunk of one class of it. -/
abbrev SXc : Shape := ⟨4, ![1, 1, 8, 512]⟩
/-- A chunk: 8 rows of 512 pixels. -/
abbrev SV : Shape := ⟨2, ![8, 512]⟩
/-- One slab of a scratch array. -/
abbrev SV1 : Shape := ⟨3, ![1, 8, 512]⟩
/-- The scratch array of hits. -/
abbrev SC : Shape := ⟨3, ![10, 8, 512]⟩
/-- The scratch array of sums. -/
abbrev SS : Shape := ⟨3, ![20, 8, 512]⟩
/-- The result of the kernel. -/
abbrev SO : Shape := ⟨2, ![1, 1]⟩

theorem inb_x (r : Fin 32) (ci : Fin 19) :
    ∀ a, (![0, ci.val, 8 * r.val, 0] : Fin 4 → Nat) a + SXc.size a ≤ SX.size a := by
  have := r.isLt; have := ci.isLt
  intro a; fin_cases a <;> simp <;> omega

theorem inb_c (k : Fin 10) : ∀ a, (![k.val, 0, 0] : Fin 3 → Nat) a + SV1.size a ≤ SC.size a := by
  have := k.isLt
  intro a; fin_cases a <;> simp <;> omega

theorem inb_s (k : Fin 20) : ∀ a, (![k.val, 0, 0] : Fin 3 → Nat) a + SV1.size a ≤ SS.size a := by
  have := k.isLt
  intro a; fin_cases a <;> simp <;> omega

theorem pos_x : 0 < SXc.numel := by decide
theorem pos_v : 0 < SV1.numel := by decide
theorem pos_c : 0 < SC.numel := by decide
theorem pos_s : 0 < SS.numel := by decide
theorem sc_x : SXc.ShapeCasts SV := by decide
theorem sc_v : SV1.ShapeCasts SV := by decide
theorem sc_w : SV.ShapeCasts SV1 := by decide
theorem sc_c : SC.ShapeCasts SC := by decide
theorem sc_s : SS.ShapeCasts SS := by decide

/-- Where chunk `r` of class `ci` lies in the block. -/
abbrev rectX (r : Fin 32) (ci : Fin 19) : Rect SX := Rect.unit (s := SX) ![0, ci.val, 8 * r.val, 0] SXc.size (inb_x r ci)
/-- Where slab `k` of the hits lies. -/
abbrev rectC (k : Fin 10) : Rect SC := Rect.unit (s := SC) ![k.val, 0, 0] SV1.size (inb_c k)
/-- Where slab `k` of the sums lies. -/
abbrev rectS (k : Fin 20) : Rect SS := Rect.unit (s := SS) ![k.val, 0, 0] SV1.size (inb_s k)

variable {nD : Nat} {τ : Topo} {sig : RefSig} {Λ : Labels} {F : FTy → Type} [FloatOps F] {α : Type}

/-- A program of the body. -/
abbrev Pr (nD : Nat) (τ : Topo) (sig : RefSig) (Λ : Labels) (F : FTy → Type) (α : Type) : Type _ :=
  Prog (TpuEff nD τ sig (Elt F) Λ .tc) α

section
variable (X : Memref sig .tc .vmem SX .f32) (C : Memref sig .tc .vmem SC .f32) (S : Memref sig .tc .vmem SS .f32)

/-- Read chunk `r` of class `ci`. -/
def ldx (r : Fin 32) (ci : Fin 19) (k : FVec F SV .f32 → Pr nD τ sig Λ F α) : Pr nD τ sig Λ F α :=
  .op (.load X (rectX r ci).toLoadRect (View.loadsAt_vmem pos_x)) fun v => k (shapeCast SV v sc_x)

/-- Add `d` to slab `j` of the hits. -/
def addC (j : Fin 10) (d : FVec F SV .f32) (k : Pr nD τ sig Λ F α) : Pr nD τ sig Λ F α :=
  .op (.load C (rectC j).toLoadRect (View.loadsAt_vmem pos_v)) fun v =>
  .op (.load C (rectC j).toLoadRect (View.loadsAt_vmem pos_v)) fun _ =>
  .op (.store C (rectC j) (shapeCast SV1 (addf (shapeCast SV (v : Vec F SV1 .f32) sc_v) d) sc_w) Finset.univ
    (View.stores_vmem_bits_univ pos_v rfl) (.inl rfl)) fun _ => k

/-- Add `d` to slab `j` of the sums. -/
def addS (j : Fin 20) (d : FVec F SV .f32) (k : Pr nD τ sig Λ F α) : Pr nD τ sig Λ F α :=
  .op (.load S (rectS j).toLoadRect (View.loadsAt_vmem pos_v)) fun v =>
  .op (.load S (rectS j).toLoadRect (View.loadsAt_vmem pos_v)) fun _ =>
  .op (.store S (rectS j) (shapeCast SV1 (addf (shapeCast SV (v : Vec F SV1 .f32) sc_v) d) sc_w) Finset.univ
    (View.stores_vmem_bits_univ pos_v rfl) (.inl rfl)) fun _ => k

/-- What the first run over the classes carries: largest logit, sum of exponentials and sum of their squares, of
    the even classes and of the odd ones. -/
structure St (F : FTy → Type) where
  mE : FVec F SV .f32
  mO : FVec F SV .f32
  zE : FVec F SV .f32
  zO : FVec F SV .f32
  sE : FVec F SV .f32
  sO : FVec F SV .f32

variable (lg : F .f32)

/-- The exponential of a logit. -/
def ex (a : FVec F SV .f32) : FVec F SV .f32 := exp2 (mulf a (broadcast SV lg))
/-- After classes 0 and 1. -/
def St.init (a b : FVec F SV .f32) : St F :=
  ⟨a, b, ex lg a, ex lg b, mulf (ex lg a) (ex lg a), mulf (ex lg b) (ex lg b)⟩
/-- One more even class. -/
def St.even (s : St F) (a : FVec F SV .f32) : St F :=
  ⟨maximumf s.mE a, s.mO, addf s.zE (ex lg a), s.zO, addf s.sE (mulf (ex lg a) (ex lg a)), s.sO⟩
/-- One more odd class. -/
def St.odd (s : St F) (b : FVec F SV .f32) : St F :=
  ⟨s.mE, maximumf s.mO b, s.zE, addf s.zO (ex lg b), s.sE, addf s.sO (mulf (ex lg b) (ex lg b))⟩
/-- The largest logit. -/
def St.m (s : St F) : FVec F SV .f32 := maximumf s.mE s.mO
/-- The sum of the squared probabilities. -/
def St.q (s : St F) : FVec F SV .f32 := divf (addf s.sE s.sO) (mulf (addf s.zE s.zO) (addf s.zE s.zO))

/-- The first run over the classes, up to the pair `2 n`, `2 n + 1`. -/
def stats (r : Fin 32) : (n : Nat) → n < 9 → (St F → Pr nD τ sig Λ F α) → Pr nD τ sig Λ F α
  | 0, _, k => ldx X r 0 fun a => ldx X r 1 fun b => k (St.init lg a b)
  | n + 1, h, k => stats r n (Nat.lt_of_succ_lt h) fun s =>
      ldx X r ⟨2 * n + 2, by omega⟩ fun a => ldx X r ⟨2 * n + 3, by omega⟩ fun b => k ((s.even lg a).odd lg b)

/-- Does a logit reach the largest one? -/
def eqm (m a : FVec F SV .f32) : IVec SV 1 := cmpf .oeq a m
/-- And is it the first to? -/
def hit (t e : IVec SV 1) : IVec SV 1 := andi e (xori t (constantI SV 1 1#1))

/-- What a pair of classes adds to its slab of hits: 4096 for the even class, 1 for the odd one. -/
def dC (ha hb : IVec SV 1) : FVec F SV .f32 :=
  select ha (broadcast SV (Scalar.ofBits .f32 0x45800000#32))
    (select hb (broadcast SV (Scalar.ofBits .f32 0x3F800000#32)) (broadcast SV (Scalar.ofBits .f32 0x00000000#32)))
/-- What the last class adds. -/
def dC' (ha : IVec SV 1) : FVec F SV .f32 :=
  select ha (broadcast SV (Scalar.ofBits .f32 0x45800000#32)) (broadcast SV (Scalar.ofBits .f32 0x00000000#32))
/-- What a class adds to its slab of sums. -/
def dS (h : IVec SV 1) (q : FVec F SV .f32) : FVec F SV .f32 :=
  select h q (broadcast SV (Scalar.ofBits .f32 0x00000000#32))

/-- The second run over the classes, the first `n` pairs: `t` tells the pixels whose class is found. -/
def hist (r : Fin 32) (m q : FVec F SV .f32) : (n : Nat) → n ≤ 9 → (IVec SV 1 → Pr nD τ sig Λ F α) → Pr nD τ sig Λ F α
  | 0, _, k => k (broadcast SV 0#1)
  | n + 1, h, k => hist r m q n (Nat.le_of_succ_le h) fun t =>
      ldx X r ⟨2 * n, by omega⟩ fun a => ldx X r ⟨2 * n + 1, by omega⟩ fun b =>
      addC C ⟨n, by omega⟩ (dC (hit t (eqm m a)) (hit (ori t (eqm m a)) (eqm m b))) <|
      addS S ⟨n, by omega⟩ (dS (hit t (eqm m a)) q) <|
      addS S ⟨10 + n, by omega⟩ (dS (hit (ori t (eqm m a)) (eqm m b)) q) <|
      k (ori (ori t (eqm m a)) (eqm m b))

/-- One chunk. -/
def chunk (r : Fin 32) (k : Pr nD τ sig Λ F α) : Pr nD τ sig Λ F α :=
  stats X lg r 8 (by omega) fun s => ldx X r 18 fun a =>
    hist X C S r (s.even lg a).m (s.even lg a).q 9 le_rfl fun t => ldx X r 18 fun b =>
      addC C 9 (dC' (hit t (eqm (s.even lg a).m b))) <|
      addS S 9 (dS (hit t (eqm (s.even lg a).m b)) (s.even lg a).q) k

/-- The first `n` chunks. -/
def chunks : (n : Nat) → n ≤ 32 → Pr nD τ sig Λ F α → Pr nD τ sig Λ F α
  | 0, _, k => k
  | n + 1, h, k => chunks n (Nat.le_of_succ_le h) (chunk X C S lg ⟨n, h⟩ k)

end

/-! ## The first and the last grid point -/

abbrev S10 : Shape := ⟨1, ![10]⟩
abbrev S10a : Shape := ⟨3, ![10, 1, 1]⟩
abbrev S10b : Shape := ⟨2, ![10, 1]⟩
abbrev S9a : Shape := ⟨3, ![9, 1, 1]⟩
abbrev S9b : Shape := ⟨2, ![9, 1]⟩
abbrev S20 : Shape := ⟨1, ![20]⟩
abbrev S20a : Shape := ⟨3, ![20, 1, 1]⟩
abbrev S20b : Shape := ⟨2, ![20, 1]⟩
abbrev S1 : Shape := ⟨1, ![1]⟩

theorem inb_cc : ∀ a, (![0, 0, 0] : Fin 3 → Nat) a + SC.size a ≤ SC.size a := by decide
theorem inb_ss : ∀ a, (![0, 0, 0] : Fin 3 → Nat) a + SS.size a ≤ SS.size a := by decide
theorem inb_oo : ∀ a, (![0, 0] : Fin 2 → Nat) a + SO.size a ≤ SO.size a := by decide
theorem pos_o : 0 < SO.numel := by decide

/-- The number of hits of the even classes. -/
def cntE (p : FVec F SC .f32) : FVec F S10b .f32 :=
  shapeCast S10b (shapeCast S10a (multiReduction .add [1, 2] S10 (floor (mulf p (broadcast SC (Scalar.ofBits .f32 0x39800000#32)))) 0x00000000#32 (by decide) (.inl rfl) rfl) (by decide)) (by decide)
/-- The number of hits of the odd classes. -/
def cntO (p : FVec F SC .f32) : FVec F S9b .f32 :=
  shapeCast S9b (extractStridedSlice S9a ![0, 0, 0] (shapeCast S10a (multiReduction .add [1, 2] S10
    (subf p (mulf (floor (mulf p (broadcast SC (Scalar.ofBits .f32 0x39800000#32)))) (broadcast SC (Scalar.ofBits .f32 0x45800000#32)))) 0x00000000#32 (by decide) (.inl rfl) rfl) (by decide)) (by decide)) (by decide)
/-- The sums of all classes. -/
def sumA (q : FVec F SS .f32) : FVec F S20b .f32 :=
  shapeCast S20b (shapeCast S20a (multiReduction .add [1, 2] S20 q 0x00000000#32 (by decide) (.inl rfl) rfl) (by decide)) (by decide)
/-- The denominators of some classes with the given numbers of hits. -/
def den (s : Shape) (n : FVec F s .f32) : FVec F s .f32 :=
  maximumf (select (cmpf .ogt n (broadcast s (Scalar.ofBits .f32 0x00000000#32)))
    (mulf (exp (mulf (broadcast s (Scalar.ofBits .f32 0x3E4CCCCD#32))
      (log (select (cmpf .ogt n (broadcast s (Scalar.ofBits .f32 0x00000000#32))) n (broadcast s (Scalar.ofBits .f32 0x3F800000#32))))))
      (broadcast s (Scalar.ofBits .f32 0x47DEDC67#32)))
    (broadcast s (Scalar.ofBits .f32 0x00000000#32))) (broadcast s (Scalar.ofBits .f32 0x3F800000#32))
/-- The even classes' part of the sum of quotients. -/
def totE (p : FVec F SC .f32) (q : FVec F SS .f32) : FVec F SO .f32 :=
  shapeCast SO (multiReduction .add [0] S1 (divf (extractStridedSlice S10b ![0, 0] (sumA q) (by decide)) (den S10b (cntE p))) 0x00000000#32 (by decide) (.inl rfl) rfl) (by decide)
/-- The odd classes' part. -/
def totO (p : FVec F SC .f32) (q : FVec F SS .f32) : FVec F SO .f32 :=
  shapeCast SO (multiReduction .add [0] S1 (divf (extractStridedSlice S9b ![10, 0] (sumA q) (by decide)) (den S9b (cntO p))) 0x00000000#32 (by decide) (.inl rfl) rfl) (by decide)
/-- What the last grid point writes. -/
def outV (p : FVec F SC .f32) (q : FVec F SS .f32) : FVec F SO .f32 :=
  divf (subf (broadcast SO (Scalar.ofBits .f32 0x00000000#32)) (addf (totE p q) (totO p q))) (broadcast SO (Scalar.ofBits .f32 0x43180000#32))

section
variable (O : Memref sig .tc .vmem SO .f32) (C : Memref sig .tc .vmem SC .f32) (S : Memref sig .tc .vmem SS .f32)

/-- Clear the two scratch arrays. -/
def clear (k : Pr nD τ sig Λ F α) : Pr nD τ sig Λ F α :=
  .op (.load C (Rect.unit (s := SC) ![0, 0, 0] SC.size inb_cc).toLoadRect (View.loadsAt_vmem pos_c)) fun _ =>
  .op (.store C (Rect.unit (s := SC) ![0, 0, 0] SC.size inb_cc)
    (shapeCast SC (broadcast SC (Scalar.ofBits .f32 0x00000000#32 : F .f32)) sc_c) Finset.univ
    (View.stores_vmem_bits_univ pos_c rfl) (.inl rfl)) fun _ =>
  .op (.load S (Rect.unit (s := SS) ![0, 0, 0] SS.size inb_ss).toLoadRect (View.loadsAt_vmem pos_s)) fun _ =>
  .op (.store S (Rect.unit (s := SS) ![0, 0, 0] SS.size inb_ss)
    (shapeCast SS (broadcast SS (Scalar.ofBits .f32 0x00000000#32 : F .f32)) sc_s) Finset.univ
    (View.stores_vmem_bits_univ pos_s rfl) (.inl rfl)) fun _ => k

/-- Write the result. -/
def finish : Pr nD τ sig Λ F PUnit :=
  .op (.load C (Rect.unit (s := SC) ![0, 0, 0] SC.size inb_cc).toLoadRect (View.loadsAt_vmem pos_c)) fun p =>
  .op (.load S (Rect.unit (s := SS) ![0, 0, 0] SS.size inb_ss).toLoadRect (View.loadsAt_vmem pos_s)) fun q =>
  .op (.load O (Rect.unit (s := SO) ![0, 0] SO.size inb_oo).toLoadRect (View.loadsAt_vmem pos_o)) fun _ =>
  .op (.store O (Rect.unit (s := SO) ![0, 0] SO.size inb_oo) (outV (p : Vec F SC .f32) (q : Vec F SS .f32)) Finset.univ
    (View.stores_vmem_bits_univ pos_o rfl) (.inl rfl)) fun _ => .ret ⟨⟩

end

end Cert.Msiw

end
-- ==== Proof.Run.lean ====
/- What the loops of `Body` do to the memory they run on: each program, run from a block and two scratch arrays,
   goes on from the scratch arrays changed by a function of the block. -/
module

public import proofs.«01_k».proof.Proof.Body
public import Idealize.ShloMosaic.Lib.Memref
public import Idealize.ShloMosaic.Lib.Pipeline.Value
public import Idealize.ShloMosaic.Lib.Tactic

@[expose] public section

noncomputable section

namespace Cert.Msiw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Λ : Labels} {Val : EltTy → Type}
  {Ix : Type} [DecidableEq Ix] {Name : Type} [DecidableEq Name] {U : Type} [URA U] {Lvl : Type} [Preorder Lvl]
  {defs : Defs nD τ sig Val Λ} (𝒱 : Variants) (c : Thread nD τ) (bd : Option 𝒱.V) (E : Set Name)
  {s : Shape} {e : EltTy} {α : Type} {Q : α → sProp (MT nD τ sig Ix Val Name U Lvl)} {cs : CoreSpace}

/-- A load through a rectangle, the memref owned at what it reads. -/
theorem own_load {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    iprop(owns c m q X ∗ (owns c m q X -∗ wp frame (wpE defs 𝒱 c bd) E (k fun i => X (r.emb i)) Q))
      ⊢ wp frame (wpE defs 𝒱 c bd) E (.op (.load m r.toLoadRect hl) k) Q := by
  unfold owns
  iintro ⟨⟨%f, %hf, H⟩, K⟩
  subst hf
  iapply (wp_load_rect 𝒱 c bd E (m := m) (r := r) (View.set_slice_subset _ r)) $$ H
  iintro H
  iapply K
  iexists f
  isplitr; · ipureintro; rfl
  iexact H

/-- A store through a rectangle. -/
theorem own_store {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    iprop(owns c m fullShare X ∗ (owns c m fullShare (r.overlay X w) -∗ wp frame (wpE defs 𝒱 c bd) E (k ⟨⟩) Q))
      ⊢ wp frame (wpE defs 𝒱 c bd) E (.op (.store m r w Finset.univ hx hm) k) Q := by
  unfold owns
  iintro ⟨⟨%f, %hf, H⟩, K⟩
  subst hf
  iapply (wp_store 𝒱 c bd E (m := m) (r := r) (w := w) (Mk := Finset.univ) (View.set_slice_subset _ r)) $$ H
  iintro H
  iapply K
  iexists _
  isplitr
  rotate_left
  · iexact H
  ipureintro
  funext y
  by_cases hy : y ∈ r.set
  · obtain ⟨x, -, rfl⟩ := Finset.mem_map.mp (Rect.map_emb_univ r ▸ hy)
    exact (View.read_slice_write_emb r f w (Finset.mem_univ x)).trans (Rect.overlay_emb r _ w x).symm
  · exact (View.read_slice_write_of_not_mem r f w Finset.univ (by rwa [Rect.map_emb_univ])).trans
      (Rect.overlay_of_not_mem r _ w hy).symm

end

/-! ## What the loops compute, as functions of the block -/

section
variable {F : FTy → Type} [FloatOps F] (lg : F .f32) (x : Vec F SX .f32)

/-- Chunk `r` of class `ci`. -/
def xs (r : Fin 32) (ci : Fin 19) : FVec F SV .f32 := shapeCast SV (fun i => x ((rectX r ci).emb i)) sc_x

/-- What the first run carries after the pair `2 n`, `2 n + 1`. -/
def statsV (r : Fin 32) : (n : Nat) → n < 9 → St F
  | 0, _ => St.init lg (xs x r 0) (xs x r 1)
  | n + 1, h => ((statsV r n (Nat.lt_of_succ_lt h)).even lg (xs x r ⟨2 * n + 2, by omega⟩)).odd lg (xs x r ⟨2 * n + 3, by omega⟩)

/-- What it ends with. -/
def statV (r : Fin 32) : St F := (statsV lg x r 8 (by omega)).even lg (xs x r 18)

/-- The pixels whose class is among the first `n` pairs. -/
def tkV (r : Fin 32) : (n : Nat) → n ≤ 9 → IVec SV 1
  | 0, _ => broadcast SV 0#1
  | n + 1, h => ori (ori (tkV r n (Nat.le_of_succ_le h)) (eqm (statV lg x r).m (xs x r ⟨2 * n, by omega⟩)))
      (eqm (statV lg x r).m (xs x r ⟨2 * n + 1, by omega⟩))

/-- The pixels of the even class of pair `n`. -/
def hitE (r : Fin 32) (n : Nat) (h : n ≤ 9) : IVec SV 1 :=
  hit (tkV lg x r n h) (eqm (statV lg x r).m (xs x r ⟨2 * n, by omega⟩))
/-- The pixels of its odd class. -/
def hitO (r : Fin 32) (n : Nat) (h : n < 9) : IVec SV 1 :=
  hit (ori (tkV lg x r n h.le) (eqm (statV lg x r).m (xs x r ⟨2 * n, by omega⟩))) (eqm (statV lg x r).m (xs x r ⟨2 * n + 1, by omega⟩))

/-- Slab `j` of the hits with `d` added. -/
def addCv (j : Fin 10) (d : FVec F SV .f32) (a : Vec F SC .f32) : Vec F SC .f32 :=
  (rectC j).overlay a (shapeCast SV1 (addf (shapeCast SV ((fun i => a ((rectC j).emb i)) : Vec F SV1 .f32) sc_v) d) sc_w)
/-- Slab `j` of the sums with `d` added. -/
def addSv (j : Fin 20) (d : FVec F SV .f32) (b : Vec F SS .f32) : Vec F SS .f32 :=
  (rectS j).overlay b (shapeCast SV1 (addf (shapeCast SV ((fun i => b ((rectS j).emb i)) : Vec F SV1 .f32) sc_v) d) sc_w)

/-- The hits after the first `n` pairs. -/
def histC (r : Fin 32) (a : Vec F SC .f32) : (n : Nat) → n ≤ 9 → Vec F SC .f32
  | 0, _ => a
  | n + 1, h => addCv ⟨n, by omega⟩ (dC (hitE lg x r n (Nat.le_of_succ_le h)) (hitO lg x r n h)) (histC r a n (Nat.le_of_succ_le h))
/-- The sums after the first `n` pairs. -/
def histS (r : Fin 32) (b : Vec F SS .f32) : (n : Nat) → n ≤ 9 → Vec F SS .f32
  | 0, _ => b
  | n + 1, h => addSv ⟨10 + n, by omega⟩ (dS (hitO lg x r n h) (statV lg x r).q)
      (addSv ⟨n, by omega⟩ (dS (hitE lg x r n (Nat.le_of_succ_le h)) (statV lg x r).q) (histS r b n (Nat.le_of_succ_le h)))

/-- The hits after chunk `r`. -/
def chunkC (r : Fin 32) (a : Vec F SC .f32) : Vec F SC .f32 := addCv 9 (dC' (hitE lg x r 9 le_rfl)) (histC lg x r a 9 le_rfl)
/-- The sums after chunk `r`. -/
def chunkS (r : Fin 32) (b : Vec F SS .f32) : Vec F SS .f32 := addSv 9 (dS (hitE lg x r 9 le_rfl) (statV lg x r).q) (histS lg x r b 9 le_rfl)

/-- The hits after the first `n` chunks. -/
def blockC (a : Vec F SC .f32) : (n : Nat) → n ≤ 32 → Vec F SC .f32
  | 0, _ => a
  | n + 1, h => chunkC lg x ⟨n, h⟩ (blockC a n (Nat.le_of_succ_le h))
/-- The sums after the first `n` chunks. -/
def blockS (b : Vec F SS .f32) : (n : Nat) → n ≤ 32 → Vec F SS .f32
  | 0, _ => b
  | n + 1, h => chunkS lg x ⟨n, h⟩ (blockS b n (Nat.le_of_succ_le h))

end

/-! ## The runs -/

section
variable {nD : Nat} {τ : Topo} {sig : RefSig} {Λ : Labels} {F : FTy → Type} [FloatOps F]
  {Ix : Type} [DecidableEq Ix] {Name : Type} [DecidableEq Name] {U : Type} [URA U] {Lvl : Type} [Preorder Lvl]
  {defs : Defs nD τ sig (Elt F) Λ} (𝒱 : Variants) (c : Dev nD) (bd : Option 𝒱.V) (E : Set Name)
  {α : Type} {Q : α → sProp (MT nD τ sig Ix (Elt F) Name U Lvl)}
  (X : Memref sig .tc .vmem SX .f32) (O : Memref sig .tc .vmem SO .f32) (C : Memref sig .tc .vmem SC .f32) (S : Memref sig .tc .vmem SS .f32)
  (lg : F .f32) (x : Vec F SX .f32) (a : Vec F SC .f32) (b : Vec F SS .f32)

theorem run_ldx (r : Fin 32) (ci : Fin 19) (k : FVec F SV .f32 → Pr nD τ sig Λ F α) :
    iprop(owns (c : Thread nD τ) X fullShare x ∗ (owns (c : Thread nD τ) X fullShare x -∗ wp frame (wpE defs 𝒱 c bd) E (k (xs x r ci)) Q))
      ⊢ wp frame (wpE defs 𝒱 c bd) E (ldx X r ci k) Q := by
  unfold ldx
  iintro ⟨H, K⟩
  iapply (own_load 𝒱 (c : Thread nD τ) bd E)
  isplitl [H]; · iexact H
  iexact K

theorem run_addC (j : Fin 10) (d : FVec F SV .f32) (k : Pr nD τ sig Λ F α) :
    iprop(owns (c : Thread nD τ) C fullShare a ∗ (owns (c : Thread nD τ) C fullShare (addCv j d a) -∗ wp frame (wpE defs 𝒱 c bd) E k Q))
      ⊢ wp frame (wpE defs 𝒱 c bd) E (addC C j d k) Q := by
  unfold addC
  iintro ⟨H, K⟩
  iapply (own_load 𝒱 (c : Thread nD τ) bd E)
  isplitl [H]; · iexact H
  iintro H
  iapply (own_load 𝒱 (c : Thread nD τ) bd E)
  isplitl [H]; · iexact H
  iintro H
  iapply (own_store 𝒱 (c : Thread nD τ) bd E)
  isplitl [H]; · iexact H
  iexact K

theorem run_addS (j : Fin 20) (d : FVec F SV .f32) (k : Pr nD τ sig Λ F α) :
    iprop(owns (c : Thread nD τ) S fullShare b ∗ (owns (c : Thread nD τ) S fullShare (addSv j d b) -∗ wp frame (wpE defs 𝒱 c bd) E k Q))
      ⊢ wp frame (wpE defs 𝒱 c bd) E (addS S j d k) Q := by
  unfold addS
  iintro ⟨H, K⟩
  iapply (own_load 𝒱 (c : Thread nD τ) bd E)
  isplitl [H]; · iexact H
  iintro H
  iapply (own_load 𝒱 (c : Thread nD τ) bd E)
  isplitl [H]; · iexact H
  iintro H
  iapply (own_store 𝒱 (c : Thread nD τ) bd E)
  isplitl [H]; · iexact H
  iexact K

theorem run_stats (r : Fin 32) (n : Nat) (h : n < 9) (k : St F → Pr nD τ sig Λ F α) :
    iprop(owns (c : Thread nD τ) X fullShare x ∗ (owns (c : Thread nD τ) X fullShare x -∗ wp frame (wpE defs 𝒱 c bd) E (k (statsV lg x r n h)) Q))
      ⊢ wp frame (wpE defs 𝒱 c bd) E (stats X lg r n h k) Q := by
  induction n generalizing k with
  | zero =>
    unfold stats
    iintro ⟨H, K⟩
    iapply (run_ldx 𝒱 c bd E X x)
    isplitl [H]; · iexact H
    iintro H
    iapply (run_ldx 𝒱 c bd E X x)
    isplitl [H]; · iexact H
    iexact K
  | succ n ih =>
    unfold stats
    iintro ⟨H, K⟩
    iapply (ih (Nat.lt_of_succ_lt h))
    isplitl [H]; · iexact H
    iintro H
    iapply (run_ldx 𝒱 c bd E X x)
    isplitl [H]; · iexact H
    iintro H
    iapply (run_ldx 𝒱 c bd E X x)
    isplitl [H]; · iexact H
    iexact K

theorem run_hist (r : Fin 32) (n : Nat) (h : n ≤ 9) (k : IVec SV 1 → Pr nD τ sig Λ F α) :
    iprop(owns (c : Thread nD τ) X fullShare x ∗ owns (c : Thread nD τ) C fullShare a ∗ owns (c : Thread nD τ) S fullShare b
        ∗ (iprop(owns (c : Thread nD τ) X fullShare x ∗ owns (c : Thread nD τ) C fullShare (histC lg x r a n h) ∗ owns (c : Thread nD τ) S fullShare (histS lg x r b n h))
            -∗ wp frame (wpE defs 𝒱 c bd) E (k (tkV lg x r n h)) Q))
      ⊢ wp frame (wpE defs 𝒱 c bd) E (hist X C S r (statV lg x r).m (statV lg x r).q n h k) Q := by
  induction n generalizing k with
  | zero =>
    unfold hist
    iintro ⟨H, HC, HS, K⟩
    iapply K
    isplitl [H]; · iexact H
    isplitl [HC]; · iexact HC
    iexact HS
  | succ n ih =>
    unfold hist
    iintro ⟨H, HC, HS, K⟩
    iapply (ih (Nat.le_of_succ_le h))
    isplitl [H]; · iexact H
    isplitl [HC]; · iexact HC
    isplitl [HS]; · iexact HS
    iintro ⟨H, HC, HS⟩
    iapply (run_ldx 𝒱 c bd E X x)
    isplitl [H]; · iexact H
    iintro H
    iapply (run_ldx 𝒱 c bd E X x)
    isplitl [H]; · iexact H
    iintro H
    iapply (run_addC 𝒱 c bd E C)
    isplitl [HC]; · iexact HC
    iintro HC
    iapply (run_addS 𝒱 c bd E S)
    isplitl [HS]; · iexact HS
    iintro HS
    iapply (run_addS 𝒱 c bd E S)
    isplitl [HS]; · iexact HS
    iintro HS
    iapply K
    isplitl [H]; · iexact H
    isplitl [HC]; · iexact HC
    iexact HS

theorem run_chunk (r : Fin 32) (k : Pr nD τ sig Λ F α) :
    iprop(owns (c : Thread nD τ) X fullShare x ∗ owns (c : Thread nD τ) C fullShare a ∗ owns (c : Thread nD τ) S fullShare b
        ∗ (iprop(owns (c : Thread nD τ) X fullShare x ∗ owns (c : Thread nD τ) C fullShare (chunkC lg x r a) ∗ owns (c : Thread nD τ) S fullShare (chunkS lg x r b))
            -∗ wp frame (wpE defs 𝒱 c bd) E k Q))
      ⊢ wp frame (wpE defs 𝒱 c bd) E (chunk X C S lg r k) Q := by
  unfold chunk
  iintro ⟨H, HC, HS, K⟩
  iapply (run_stats 𝒱 c bd E X lg x)
  isplitl [H]; · iexact H
  iintro H
  iapply (run_ldx 𝒱 c bd E X x)
  isplitl [H]; · iexact H
  iintro H
  iapply (run_hist 𝒱 c bd E X C S lg x a b)
  isplitl [H]; · iexact H
  isplitl [HC]; · iexact HC
  isplitl [HS]; · iexact HS
  iintro ⟨H, HC, HS⟩
  iapply (run_ldx 𝒱 c bd E X x)
  isplitl [H]; · iexact H
  iintro H
  iapply (run_addC 𝒱 c bd E C)
  isplitl [HC]; · iexact HC
  iintro HC
  iapply (run_addS 𝒱 c bd E S)
  isplitl [HS]; · iexact HS
  iintro HS
  iapply K
  isplitl [H]; · iexact H
  isplitl [HC]; · iexact HC
  iexact HS

theorem run_chunks (n : Nat) (h : n ≤ 32) (k : Pr nD τ sig Λ F α) :
    iprop(owns (c : Thread nD τ) X fullShare x ∗ owns (c : Thread nD τ) C fullShare a ∗ owns (c : Thread nD τ) S fullShare b
        ∗ (iprop(owns (c : Thread nD τ) X fullShare x ∗ owns (c : Thread nD τ) C fullShare (blockC lg x a n h) ∗ owns (c : Thread nD τ) S fullShare (blockS lg x b n h))
            -∗ wp frame (wpE defs 𝒱 c bd) E k Q))
      ⊢ wp frame (wpE defs 𝒱 c bd) E (chunks X C S lg n h k) Q := by
  induction n generalizing k with
  | zero =>
    unfold chunks
    iintro ⟨H, HC, HS, K⟩
    iapply K
    isplitl [H]; · iexact H
    isplitl [HC]; · iexact HC
    iexact HS
  | succ n ih =>
    unfold chunks
    iintro ⟨H, HC, HS, K⟩
    iapply (ih (Nat.le_of_succ_le h))
    isplitl [H]; · iexact H
    isplitl [HC]; · iexact HC
    isplitl [HS]; · iexact HS
    iintro ⟨H, HC, HS⟩
    iapply (run_chunk 𝒱 c bd E X C S lg x)
    isplitl [H]; · iexact H
    isplitl [HC]; · iexact HC
    isplitl [HS]; · iexact HS
    iexact K

/-- Reading or writing all of an array whose offsets are zero. -/
theorem emb_zero {s : Shape} (off : Fin s.rank → Nat) (h0 : ∀ d, off d = 0) (inb : ∀ d, off d + s.size d ≤ s.size d) (i : s.Idx) :
    (Rect.unit off s.size inb).emb i = i := by
  funext d; apply Fin.ext; rw [Rect.emb_apply]; simp [Rect.unit, h0]

theorem read_zero {s : Shape} {β : Type} (off : Fin s.rank → Nat) (h0 : ∀ d, off d = 0) (inb : ∀ d, off d + s.size d ≤ s.size d)
    (f : s.Idx → β) : (fun i => f ((Rect.unit off s.size inb).emb i)) = f :=
  funext fun i => congrArg f (emb_zero off h0 inb i)

theorem overlay_zero {s : Shape} {β : Type} (off : Fin s.rank → Nat) (h0 : ∀ d, off d = 0) (inb : ∀ d, off d + s.size d ≤ s.size d)
    (f w : s.Idx → β) : (Rect.unit off s.size inb).overlay f w = w := by
  funext i
  have := Rect.overlay_emb (Rect.unit off s.size inb) f w i
  rwa [emb_zero off h0 inb i] at this

/-- The scratch arrays of hits and sums, cleared. -/
abbrev zeroC : Vec F SC .f32 := broadcast SC (Scalar.ofBits .f32 0x00000000#32 : F .f32)
abbrev zeroS : Vec F SS .f32 := broadcast SS (Scalar.ofBits .f32 0x00000000#32 : F .f32)

theorem run_clear (k : Pr nD τ sig Λ F α) :
    iprop(owns (c : Thread nD τ) C fullShare a ∗ owns (c : Thread nD τ) S fullShare b
        ∗ (iprop(owns (c : Thread nD τ) C fullShare (zeroC (F := F)) ∗ owns (c : Thread nD τ) S fullShare (zeroS (F := F)))
            -∗ wp frame (wpE defs 𝒱 c bd) E k Q))
      ⊢ wp frame (wpE defs 𝒱 c bd) E (clear C S k) Q := by
  unfold clear
  iintro ⟨HC, HS, K⟩
  iapply (own_load 𝒱 (c : Thread nD τ) bd E)
  isplitl [HC]; · iexact HC
  iintro HC
  iapply (own_store 𝒱 (c : Thread nD τ) bd E)
  isplitl [HC]; · iexact HC
  iintro HC
  iapply (own_load 𝒱 (c : Thread nD τ) bd E)
  isplitl [HS]; · iexact HS
  iintro HS
  iapply (own_store 𝒱 (c : Thread nD τ) bd E)
  isplitl [HS]; · iexact HS
  iintro HS
  iapply K
  rw [overlay_zero _ (by decide), overlay_zero _ (by decide), shapeCast_self, shapeCast_self]
  isplitl [HC]; · iexact HC
  iexact HS

theorem run_finish (o : Vec F SO .f32) {Q : PUnit → sProp (MT nD τ sig Ix (Elt F) Name U Lvl)} :
    iprop(owns (c : Thread nD τ) O fullShare o ∗ owns (c : Thread nD τ) C fullShare a ∗ owns (c : Thread nD τ) S fullShare b
        ∗ (iprop(owns (c : Thread nD τ) O fullShare (outV a b) ∗ owns (c : Thread nD τ) C fullShare a ∗ owns (c : Thread nD τ) S fullShare b)
            -∗ Q ⟨⟩))
      ⊢ wp frame (wpE defs 𝒱 c bd) E (finish (Λ := Λ) O C S) Q := by
  unfold finish
  iintro ⟨HO, HC, HS, K⟩
  iapply (own_load 𝒱 (c : Thread nD τ) bd E)
  isplitl [HC]; · iexact HC
  iintro HC
  iapply (own_load 𝒱 (c : Thread nD τ) bd E)
  isplitl [HS]; · iexact HS
  iintro HS
  iapply (own_load 𝒱 (c : Thread nD τ) bd E)
  isplitl [HO]; · iexact HO
  iintro HO
  iapply (own_store 𝒱 (c : Thread nD τ) bd E)
  isplitl [HO]; · iexact HO
  iintro HO
  sl_step
  iapply K
  rw [overlay_zero _ (by decide), read_zero ![0, 0, 0] (by decide) inb_cc a, read_zero ![0, 0, 0] (by decide) inb_ss b]
  isplitl [HO]; · iexact HO
  isplitl [HC]; · iexact HC
  iexact HS

end

end Cert.Msiw

end
-- ==== Proof.BodyIdeal.lean ====
/- The body of the kernel is the loops of `Body`, and so runs as they do. -/
module

public import proofs.«01_k».proof.Proof.Gen.KernelIdeal.Launch
public import proofs.«01_k».proof.Proof.Run
public import Idealize.ShloMosaic.Lib.Tactic

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The constant the logits are multiplied by before the power of two is taken. -/
abbrev LG : F .f32 := Named.named κ "log2e" 0x3FB8AA3B#32

/-- The condition of the first grid point, as the kernel computes it. -/
abbrev cond1 (i : grid0.Coords) : BitVec 1 := Scalar.cmpi .ne (Scalar.extui (Scalar.cmpi .eq (BitVec.ofNat 32 (i 0).val) 0#32)) 0#32

section
variable (i : grid0.Coords) (arg1 : Memref sig .tc .vmem S1x19x256x512 .f32) (harg1 : arg1.IsWhole) (arg2 : Memref sig .tc .vmem S1x1 .f32) (harg2 : arg2.IsWhole) (arg3 : Memref sig .tc .vmem S10x8x512 .f32) (harg3 : arg3.IsWhole) (arg4 : Memref sig .tc .vmem S20x8x512 .f32) (harg4 : arg4.IsWhole)

/-- The first statements of the body after its first condition. -/
def rest2 : Prog (TpuEff nD τ sig (Elt F) Λ₀ .tc) (Σ' (arg0 : BitVec 32) (v20 : FVec F S8x512 .f32) (v21 : FVec F S8x512 .f32) (v23 : FVec F S8x512 .f32) (v29 : FVec F S8x512 .f32) (v30 : FVec F S8x512 .f32), FVec F S8x512 .f32) :=
  .op (.load arg1 (Msiw.rectX 0 0).toLoadRect (View.loadsAt_vmem Msiw.pos_x)) fun a =>
  .op (.load arg1 (Msiw.rectX 0 1).toLoadRect (View.loadsAt_vmem Msiw.pos_x)) fun b =>
  .op (.load arg1 (Msiw.rectX 0 2).toLoadRect (View.loadsAt_vmem Msiw.pos_x)) fun a' =>
  .op (.load arg1 (Msiw.rectX 0 3).toLoadRect (View.loadsAt_vmem Msiw.pos_x)) fun b' =>
  let s := (((Msiw.St.init LG (shapeCast S8x512 a Msiw.sc_x) (shapeCast S8x512 b Msiw.sc_x)).even
    LG (shapeCast S8x512 a' Msiw.sc_x)).odd LG (shapeCast S8x512 b' Msiw.sc_x))
  .ret ⟨BitVec.ofNat 32 (i 0).val, s.mE, s.zE, s.sE, s.mO, s.zO, s.sO⟩

theorem part2_neg (h : ¬ cond1 i = 1#1) : k0_part2 (F := F) i arg1 harg1 arg2 harg2 arg3 harg3 arg4 harg4 = rest2 i arg1 := by
  unfold k0_part2
  extract_lets a b c d e
  rw [dif_neg h]
  sl_kernel_rfl

theorem part2_pos (h : cond1 i = 1#1) : k0_part2 (F := F) i arg1 harg1 arg2 harg2 arg3 harg3 arg4 harg4
    = Prog.bind (Msiw.clear arg3 arg4 (.ret PUnit.unit)) fun _ => rest2 i arg1 := by
  unfold k0_part2
  extract_lets a b c d e
  rw [dif_pos h]
  sl_kernel_rfl

/-- All after the first condition. -/
abbrev work : Prog (TpuEff nD τ sig (Elt F) Λ₀ .tc) PUnit :=
    Msiw.chunks arg1 arg3 arg4 LG 32 le_rfl
      (dite (k0_cond2 i = 1#1) (fun _ => Msiw.finish arg2 arg3 arg4) (fun _ => .ret ⟨⟩))

theorem body_neg (h : ¬ cond1 i = 1#1) : cc0__msiw_body (F := F) i arg1 harg1 arg2 harg2 arg3 harg3 arg4 harg4 = work i arg1 arg2 arg3 arg4 := by
  unfold cc0__msiw_body k0_part528
  rw [part2_neg (h := h)]
  sl_kernel_rfl

theorem body_pos (h : cond1 i = 1#1) : cc0__msiw_body (F := F) i arg1 harg1 arg2 harg2 arg3 harg3 arg4 harg4
    = Msiw.clear arg3 arg4 (work i arg1 arg2 arg3 arg4) := by
  unfold cc0__msiw_body k0_part528
  rw [part2_pos (h := h)]
  sl_kernel_rfl

/-! ## The runs of the body -/

variable (c : Dev nD) (E : Set ℕ) (x : Vec F S1x19x256x512 .f32) (o : Vec F S1x1 .f32) (a : Vec F S10x8x512 .f32) (b : Vec F S20x8x512 .f32)

theorem run_work (K : PUnit → sProp 𝕄) :
    iprop(owns (c : Thread nD τ) arg1 fullShare x ∗ owns (c : Thread nD τ) arg2 fullShare o ∗ owns (c : Thread nD τ) arg3 fullShare a ∗ owns (c : Thread nD τ) arg4 fullShare b
        ∗ (iprop(owns (c : Thread nD τ) arg1 fullShare x
            ∗ owns (c : Thread nD τ) arg2 fullShare (if k0_cond2 i = 1#1 then Msiw.outV (Msiw.blockC LG x a 32 le_rfl) (Msiw.blockS LG x b 32 le_rfl) else o)
            ∗ owns (c : Thread nD τ) arg3 fullShare (Msiw.blockC LG x a 32 le_rfl) ∗ owns (c : Thread nD τ) arg4 fullShare (Msiw.blockS LG x b 32 le_rfl)) -∗ K ⟨⟩))
      ⊢ wp frame (wpE (defs₀ (F := F)) Variants.none c none) E (work i arg1 arg2 arg3 arg4) K := by
  unfold work
  iintro ⟨H, HO, HC, HS, K⟩
  iapply (Msiw.run_chunks Variants.none c none E arg1 arg3 arg4 LG x a b)
  isplitl [H]; · iexact H
  isplitl [HC]; · iexact HC
  isplitl [HS]; · iexact HS
  iintro ⟨H, HC, HS⟩
  by_cases h : k0_cond2 i = 1#1
  · rw [dif_pos h, if_pos h]
    iapply (Msiw.run_finish Variants.none c none E arg2 arg3 arg4)
    isplitl [HO]; · iexact HO
    isplitl [HC]; · iexact HC
    isplitl [HS]; · iexact HS
    iintro ⟨HO, HC, HS⟩
    iapply K
    isplitl [H]; · iexact H
    isplitl [HO]; · iexact HO
    isplitl [HC]; · iexact HC
    iexact HS
  · rw [dif_neg h, if_neg h]
    sl_step
    iapply K
    isplitl [H]; · iexact H
    isplitl [HO]; · iexact HO
    isplitl [HC]; · iexact HC
    iexact HS

theorem run_neg (h : ¬ cond1 i = 1#1) (K : PUnit → sProp 𝕄) :
    iprop(owns (c : Thread nD τ) arg1 fullShare x ∗ owns (c : Thread nD τ) arg2 fullShare o ∗ owns (c : Thread nD τ) arg3 fullShare a ∗ owns (c : Thread nD τ) arg4 fullShare b
        ∗ (iprop(owns (c : Thread nD τ) arg1 fullShare x
            ∗ owns (c : Thread nD τ) arg2 fullShare (if k0_cond2 i = 1#1 then Msiw.outV (Msiw.blockC LG x a 32 le_rfl) (Msiw.blockS LG x b 32 le_rfl) else o)
            ∗ owns (c : Thread nD τ) arg3 fullShare (Msiw.blockC LG x a 32 le_rfl) ∗ owns (c : Thread nD τ) arg4 fullShare (Msiw.blockS LG x b 32 le_rfl)) -∗ K ⟨⟩))
      ⊢ wp frame (wpE (defs₀ (F := F)) Variants.none c none) E (cc0__msiw_body i arg1 harg1 arg2 harg2 arg3 harg3 arg4 harg4) K := by
  rw [body_neg (h := h)]
  exact run_work i arg1 arg2 arg3 arg4 c E x o a b K

theorem run_pos (h : cond1 i = 1#1) (K : PUnit → sProp 𝕄) :
    iprop(owns (c : Thread nD τ) arg1 fullShare x ∗ owns (c : Thread nD τ) arg2 fullShare o ∗ owns (c : Thread nD τ) arg3 fullShare a ∗ owns (c : Thread nD τ) arg4 fullShare b
        ∗ (iprop(owns (c : Thread nD τ) arg1 fullShare x
            ∗ owns (c : Thread nD τ) arg2 fullShare (if k0_cond2 i = 1#1 then Msiw.outV (Msiw.blockC LG x Msiw.zeroC 32 le_rfl) (Msiw.blockS LG x Msiw.zeroS 32 le_rfl) else o)
            ∗ owns (c : Thread nD τ) arg3 fullShare (Msiw.blockC LG x Msiw.zeroC 32 le_rfl) ∗ owns (c : Thread nD τ) arg4 fullShare (Msiw.blockS LG x Msiw.zeroS 32 le_rfl)) -∗ K ⟨⟩))
      ⊢ wp frame (wpE (defs₀ (F := F)) Variants.none c none) E (cc0__msiw_body i arg1 harg1 arg2 harg2 arg3 harg3 arg4 harg4) K := by
  rw [body_pos (h := h)]
  iintro ⟨H, HO, HC, HS, K⟩
  iapply (Msiw.run_clear Variants.none c none E arg3 arg4 a b)
  isplitl [HC]; · iexact HC
  isplitl [HS]; · iexact HS
  iintro ⟨HC, HS⟩
  iapply (run_work i arg1 arg2 arg3 arg4 c E x o)
  isplitl [H]; · iexact H
  isplitl [HO]; · iexact HO
  isplitl [HC]; · iexact HC
  isplitl [HS]; · iexact HS
  iexact K

end

end Cert.KernelIdeal.Own
end
-- ==== Proof.PipeIdeal.lean ====
/- The kernel's launch: what the scratch arrays hold between grid points, and the run of the whole program. -/
module

public import proofs.«01_k».proof.Proof.Gen.KernelIdeal.Frame
public import proofs.«01_k».proof.Proof.BodyIdeal
public import Idealize.ShloMosaic.Lib.Claim

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Where the conditions hold -/

theorem cond1_iff (t : Fin cfg0.N) : cond1 (grid0.coords t) = 1#1 ↔ t.val = 0 := by
  have ht : t.val < 16 := Nat.lt_of_lt_of_eq t.isLt N_0
  have e0 : (grid0.coords t 0).val = t.val / 1 % 16 := Pipeline.Grid.coords_val t 0 (by decide) rfl
  simp only [cond1, e0]
  word_cmp

theorem cond2_iff (t : Fin cfg0.N) : k0_cond2 (grid0.coords t) = 1#1 ↔ t.val = 15 := by
  have ht : t.val < 16 := Nat.lt_of_lt_of_eq t.isLt N_0
  have e0 : (grid0.coords t 0).val = t.val / 1 % 16 := Pipeline.Grid.coords_val t 0 (by decide) rfl
  simp only [k0_cond2, e0]
  word_cmp

theorem idle_of_ne (t : Fin cfg0.N) (h : ¬ k0_cond2 (grid0.coords t) = 1#1) : cfg0.idle 1 (grid0.coords t) = true := by
  revert t; decide +kernel
theorem noFlush_of_ne (t : Fin cfg0.N) (h : ¬ k0_cond2 (grid0.coords t) = 1#1) : (cfg0.win 1).flush t = false := by
  revert t; decide +kernel
theorem live_of_eq (t : Fin cfg0.N) (h : k0_cond2 (grid0.coords t) = 1#1) : cfg0.idle 1 (grid0.coords t) = false := by
  revert t; decide +kernel
theorem live_in (t : Fin cfg0.N) : cfg0.idle 0 (grid0.coords t) = false := rfl

/-! ## What the scratch arrays hold -/

/-- The current buffers of the two windows, and the scratch arrays. -/
abbrev bufX (t : Fin cfg0.N) : Memref sig .tc .vmem S1x19x256x512 .f32 := win0_0.stage (cfg0.slots t 0)
abbrev bufO (t : Fin cfg0.N) : Memref sig .tc .vmem S1x1 .f32 := win0_1.stage (cfg0.slots t 1)
abbrev bufC : Memref sig .tc .vmem S10x8x512 .f32 := Memref.whole cc0_scratch0
abbrev bufS : Memref sig .tc .vmem S20x8x512 .f32 := Memref.whole cc0_scratch1

variable (m : (ℓ : Loc nD τ sig) → Buf (Elt F) ℓ) (ρ : Dev nD → PrngReg)

/-- The block of logits at point `t`. -/
def blk (c : Dev nD) (t : Fin cfg0.N) : Vec F S1x19x256x512 .f32 := iblk m c 0 t

/-- The hits after `n` points. -/
def accC (c : Dev nD) : (n : ℕ) → n ≤ cfg0.N → Vec F S10x8x512 .f32
  | 0, _ => Msiw.zeroC
  | n + 1, h => Msiw.blockC LG (blk m c ⟨n, h⟩) (accC c n (Nat.le_of_succ_le h)) 32 le_rfl
/-- The sums after `n` points. -/
def accS (c : Dev nD) : (n : ℕ) → n ≤ cfg0.N → Vec F S20x8x512 .f32
  | 0, _ => Msiw.zeroS
  | n + 1, h => Msiw.blockS LG (blk m c ⟨n, h⟩) (accS c n (Nat.le_of_succ_le h)) 32 le_rfl

/-- What is known between points: nothing of the scratch arrays before the first, then what they hold. -/
def inv (c : Dev nD) : (n : ℕ) → n ≤ cfg0.N → sProp 𝕄
  | 0, _ => Pipeline.ΦA spec0 c
  | n + 1, h => iprop(iprop(owns (c : Thread nD τ) bufC fullShare (accC m c (n + 1) h) ∗ owns (c : Thread nD τ) bufS fullShare (accS m c (n + 1) h))
      ∗ (∃ r, prngReg c r))

theorem inv_zero (c : Dev nD) (n : ℕ) (h : n ≤ cfg0.N) (hz : n = 0) : inv m c n h
    = iprop(iprop((∃ d, owns (c : Thread nD τ) bufC fullShare d) ∗ (∃ d, owns (c : Thread nD τ) bufS fullShare d)) ∗ (∃ r, prngReg c r)) := by
  subst hz
  unfold inv Pipeline.ΦA; rw [scopedRest0_eq]; simp only [bufC, bufS, owns_whole]; rfl

theorem inv_pos (c : Dev nD) (n : ℕ) (h : n ≤ cfg0.N) (hz : n ≠ 0) : inv m c n h
    = iprop(iprop(owns (c : Thread nD τ) bufC fullShare (accC m c n h) ∗ owns (c : Thread nD τ) bufS fullShare (accS m c n h)) ∗ (∃ r, prngReg c r)) := by
  cases n with
  | zero => exact absurd rfl hz
  | succ n => rfl

/-- What the last point writes, as a function of what the scratch arrays hold after point `t`. -/
def outAt (c : Dev nD) (t : Fin cfg0.N) : Vec F S1x1 .f32 := Msiw.outV (accC m c (t.val + 1) t.isLt) (accS m c (t.val + 1) t.isLt)

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem after_in (c : Dev nD) (t : Fin cfg0.N) : (dats m 0 c).after 0 t = iblk m c 0 t := by dsimp only [dats]
theorem after_out (c : Dev nD) (t : Fin cfg0.N) : (dats m 0 c).after 1 t = outAt m c t := by dsimp only [dats]
theorem before_in (c : Dev nD) (t : Fin cfg0.N) (d) : (dats m 0 c).before 0 t d = iblk m c 0 t :=
  before0_0_of m (dats m 0 c) (A_eq m c 0) (after_in m c) t d
theorem Φ_start (c : Dev nD) (t : Fin cfg0.N) : (dats m 0 c).Φ t.castSucc = inv m c t.val (Nat.le_of_lt t.isLt) := by
  dsimp only [dats]; exact Pipeline.Dat.Φ_castSucc (inv m c) t

/-! ## The body at a point -/

/-- The body at point `t`: from what the scratch arrays held before it to what they hold after it. -/
theorem body_at (c : Dev nD) (t : Fin cfg0.N) :
    iprop((dats m 0 c).Φ t.castSucc ∗ (dats m 0 c).owesAt () t.castSucc
        ∗ (∃ d, owns (c : Thread nD τ) (bufX t) fullShare ((dats m 0 c).before 0 t d))
        ∗ (∃ d, owns (c : Thread nD τ) (bufO t) fullShare ((dats m 0 c).before 1 t d)))
      ⊢ wp frame (wpE (defs₀ (F := F)) Variants.none c none) Set.univ (bodyAt0 t) (fun _ =>
        iprop((dats m 0 c).Φ t.succ ∗ (dats m 0 c).owesAt () t.succ ∗ (dats m 0 c).leavesExact 0 t ∗ (dats m 0 c).leavesExact 1 t)) := by
  unfold bodyAt0
  simp only [before_in]
  rw [show (dats m 0 c).owesAt () t.succ = (dats m 0 c).owesAt () t.castSucc from rfl]
  rw [show (dats m 0 c).Φ t.succ = inv m c (t.val + 1) t.isLt from rfl, inv_pos m c (t.val + 1) _ (Nat.succ_ne_zero _), Φ_start]
  rw [show (dats m 0 c).leavesExact 0 t = owns (c : Thread nD τ) (bufX t) fullShare (blk m c t) from by
    unfold Dat.leavesExact; rw [live_in t, after_in]; rfl]
  by_cases h0 : t.val = 0
  · have hc1 := (cond1_iff t).mpr h0
    have hc2 : ¬ k0_cond2 (grid0.coords t) = 1#1 := fun h => by have := (cond2_iff t).mp h; omega
    rw [Dat.leavesExact_idle (dats m 0 c) 1 t (idle_of_ne t hc2) (noFlush_of_ne t hc2), inv_zero m c _ _ h0]
    have ha : accC m c (t.val + 1) t.isLt = Msiw.blockC LG (blk m c t) Msiw.zeroC 32 le_rfl := by
      obtain ⟨n, hn⟩ := t; obtain rfl : n = 0 := h0; rfl
    have hb : accS m c (t.val + 1) t.isLt = Msiw.blockS LG (blk m c t) Msiw.zeroS 32 le_rfl := by
      obtain ⟨n, hn⟩ := t; obtain rfl : n = 0 := h0; rfl
    rw [ha, hb]
    iintro ⟨⟨⟨⟨%a, HC⟩, ⟨%b, HS⟩⟩, Hg⟩, Ho, ⟨%d0, H⟩, ⟨%d1, HO⟩⟩
    iapply (run_pos (grid0.coords t) _ _ _ _ _ _ _ _ c Set.univ (blk m c t) _ a b hc1)
    isplitl [H]; · iexact H
    isplitl [HO]; · iexact HO
    isplitl [HC]; · iexact HC
    isplitl [HS]; · iexact HS
    rw [if_neg hc2]
    iintro ⟨H, HO, HC, HS⟩
    isplitl [HC HS Hg]
    · isplitl [HC HS]
      · isplitl [HC]; · iexact HC
        iexact HS
      iexact Hg
    isplitl [Ho]; · iexact Ho
    isplitl [H]; · iexact H
    iexists _; iexact HO
  · have hc1 : ¬ cond1 (grid0.coords t) = 1#1 := fun h => h0 ((cond1_iff t).mp h)
    have ha : accC m c (t.val + 1) t.isLt = Msiw.blockC LG (blk m c t) (accC m c t.val (Nat.le_of_lt t.isLt)) 32 le_rfl := rfl
    have hb : accS m c (t.val + 1) t.isLt = Msiw.blockS LG (blk m c t) (accS m c t.val (Nat.le_of_lt t.isLt)) 32 le_rfl := rfl
    rw [inv_pos m c t.val _ h0]
    by_cases h1 : t.val = 15
    · have hc2 := (cond2_iff t).mpr h1
      rw [show (dats m 0 c).leavesExact 1 t = owns (c : Thread nD τ) (bufO t) fullShare (outAt m c t) from by
        unfold Dat.leavesExact; rw [live_of_eq t hc2, after_out]]
      unfold outAt
      rw [ha, hb]
      iintro ⟨⟨⟨HC, HS⟩, Hg⟩, Ho, ⟨%d0, H⟩, ⟨%d1, HO⟩⟩
      iapply (run_neg (grid0.coords t) _ _ _ _ _ _ _ _ c Set.univ (blk m c t) _ _ _ hc1)
      isplitl [H]; · iexact H
      isplitl [HO]; · iexact HO
      isplitl [HC]; · iexact HC
      isplitl [HS]; · iexact HS
      rw [if_pos hc2]
      iintro ⟨H, HO, HC, HS⟩
      isplitl [HC HS Hg]
      · isplitl [HC HS]
        · isplitl [HC]; · iexact HC
          iexact HS
        iexact Hg
      isplitl [Ho]; · iexact Ho
      isplitl [H]; · iexact H
      iexact HO
    · have hc2 : ¬ k0_cond2 (grid0.coords t) = 1#1 := fun h => h1 ((cond2_iff t).mp h)
      rw [Dat.leavesExact_idle (dats m 0 c) 1 t (idle_of_ne t hc2) (noFlush_of_ne t hc2)]
      rw [ha, hb]
      iintro ⟨⟨⟨HC, HS⟩, Hg⟩, Ho, ⟨%d0, H⟩, ⟨%d1, HO⟩⟩
      iapply (run_neg (grid0.coords t) _ _ _ _ _ _ _ _ c Set.univ (blk m c t) _ _ _ hc1)
      isplitl [H]; · iexact H
      isplitl [HO]; · iexact HO
      isplitl [HC]; · iexact HC
      isplitl [HS]; · iexact HS
      rw [if_neg hc2]
      iintro ⟨H, HO, HC, HS⟩
      isplitl [HC HS Hg]
      · isplitl [HC HS]
        · isplitl [HC]; · iexact HC
          iexact HS
        iexact Hg
      isplitl [Ho]; · iexact Ho
      isplitl [H]; · iexact H
      iexists _; iexact HO

/-- The body table's row is the body. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

/-! ## The launch -/

theorem inv_in (c : Dev nD) : Pipeline.ΦA spec0 c ⊢ (dats m 0 c).Φ 0 := .rfl

theorem inv_out (c : Dev nD) : (dats m 0 c).Φ (Fin.last cfg0.N) ⊢ Pipeline.ΦA spec0 c := by
  have hN : cfg0.N = 16 := N_0
  rw [show (dats m 0 c).Φ (Fin.last cfg0.N) = inv m c cfg0.N le_rfl from rfl, inv_pos m c _ _ (by omega),
    show (Pipeline.ΦA spec0 c : sProp 𝕄) = inv m c 0 (Nat.zero_le _) from rfl, inv_zero m c 0 _ rfl]
  iintro ⟨⟨HC, HS⟩, Hg⟩
  isplitl [HC HS]
  · isplitl [HC]
    · iexists _; iexact HC
    iexists _; iexact HS
  iexact Hg

-- the launch theorem's implicit arguments are found by unifying its conclusion with this one
set_option backward.isDefEq.respectTransparency.types false in
set_option maxHeartbeats 800000 in
/-- The program runs to its end, every array at what the proof data say and every semaphore at zero. -/
theorem run_all : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The argument array ends unchanged and every semaphore at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.Own

end
-- ==== Proof.RefRun.lean ====
/- The run of the reference program: a straight line of array operations, and the value it computes. -/
module

public import Idealize.ShloMosaic.Lib.StableHlo.Run
public import Idealize.ShloMosaic.Lib.Claim
public import proofs.«01_k».proof.Proof.Gen.ReferenceIdeal

@[expose] public section

noncomputable section

namespace Cert.ReferenceIdeal.Own

open Cert.ReferenceIdeal Cert.ReferenceIdeal.Gen
open Idealize.ShloMosaic Idealize.ShloMosaic.TcCoe Idealize.ShloMosaic.StableHlo Idealize.SL.Sem

variable {F : FTy → Type} [FloatOps F]

/-- The program's operations, in order. -/
abbrev ops : List (HloOp τ sig (Elt F)) :=
  [ nullary main_cst (constant S_ .f32 0xFF800000#32),
    binary main_arg0 main_cst main_v0 ((fun x v => Host.reduce FloatOps.maximumf x v reducesTo_S8x19x512x512_S8x512x512_d1 h_S_)),
    nullary main_cst_0 (constant S_ .f32 0xFF800000#32),
    unary main_cst_0 main_v1 (broadcastInDim S8x512x512 ![] bcast_S_S8x512x512),
    binary main_v1 main_v0 main_v2 (maximumf),
    unary main_v2 main_v3 (broadcastInDim S8x1x512x512 ![0, 2, 3] bcast_S8x512x512_S8x1x512x512_0_2_3),
    unary main_v3 main_v4 (broadcastInDim S8x19x512x512 ![0, 1, 2, 3] bcast_S8x1x512x512_S8x19x512x512_0_1_2_3),
    binary main_arg0 main_v4 main_v5 (subf),
    unary main_v5 main_v6 (Host.exp),
    nullary main_cst_1 (constant S_ .f32 0x00000000#32),
    binary main_v6 main_cst_1 main_v7 ((fun x v => Host.reduceAdd x v reducesTo_S8x19x512x512_S8x512x512_d1 h_S_)),
    unary main_v7 main_v8 (broadcastInDim S8x1x512x512 ![0, 2, 3] bcast_S8x512x512_S8x1x512x512_0_2_3),
    unary main_v8 main_v9 (broadcastInDim S8x19x512x512 ![0, 1, 2, 3] bcast_S8x1x512x512_S8x19x512x512_0_1_2_3),
    binary main_v6 main_v9 main_v10 (Host.divf),
    nullary main_call0_v0 (iotaInDim S8x19x512x512 32 1),
    nullary main_call0_cst (constant S_ .f32 0xFF800000#32),
    nullary main_call0_c (constantI S_ 32 0#32),
    quaternary main_v10 main_call0_v0 main_call0_cst main_call0_c main_call0_v1_0 (fun x y u v j => (Host.argReduce reducer_argmax_f32_i32 x y u v reducesTo_S8x19x512x512_S8x512x512_d1 h_S_ j).1),
    quaternary main_v10 main_call0_v0 main_call0_cst main_call0_c main_v11 (fun x y u v j => (Host.argReduce reducer_argmax_f32_i32 x y u v reducesTo_S8x19x512x512_S8x512x512_d1 h_S_ j).2),
    unary main_v11 main_v12 (broadcastInDim S8x1x512x512 ![0, 2, 3] bcast_S8x512x512_S8x1x512x512_0_2_3),
    reshape main_v12 main_v13 (rfl : (.i32 : EltTy) = .i32) shapeCasts_S8x1x512x512_S2097152,
    nullary main_c (constantI S_ 32 0#32),
    unary main_c main_v14 (broadcastInDim S19 ![] bcast_S_S19),
    nullary main_c_2 (constantI S_ 32 0#32),
    unary main_c_2 main_call1_v0 id,
    unary main_call1_v0 main_call1_v1 (broadcastInDim S2097152 ![] bcast_S_S2097152),
    binary main_call1_v1 main_v13 main_v15 maxsi,
    nullary main_c_3 (constantI S_ 32 0#32),
    unary main_c_3 main_v16 (broadcastInDim S2097152 ![] bcast_S_S2097152),
    binary main_v15 main_v16 main_v17 (cmpi .slt),
    nullary main_c_4 (constantI S_ 32 19#32),
    unary main_c_4 main_v18 (broadcastInDim S2097152 ![] bcast_S_S2097152),
    binary main_v15 main_v18 main_v19 (addi),
    ternary main_v17 main_v19 main_v15 main_v20 (select),
    unary main_v20 main_v21 (broadcastInDim S2097152x1 ![0] bcast_S2097152_S2097152x1_0),
    nullary main_c_5 (constantI S_ 32 1#32),
    unary main_c_5 main_v22 (broadcastInDim S2097152 ![] bcast_S_S2097152),
    ternary main_v14 main_v21 main_v22 main_v23 ((fun x i u => Host.scatter scatter_S19_S2097152x1_S2097152_n_0_0_1 IntOp.addi x i u)),
    unary main_v23 main_v24 (sitofp .f32),
    nullary main_cst_6 (constant S_ .f32 0x3E4CCCCD#32),
    unary main_cst_6 main_v25 (broadcastInDim S19 ![] bcast_S_S19),
    binary main_v24 main_v25 main_v26 (Host.powf),
    nullary main_cst_7 (constant S_ .f32 0x47DEDC67#32),
    unary main_cst_7 main_v27 (broadcastInDim S19 ![] bcast_S_S19),
    binary main_v26 main_v27 main_v28 (mulf),
    nullary main_cst_8 (constant S_ .f32 0x3F800000#32),
    unary main_cst_8 main_v29 (broadcastInDim S19 ![] bcast_S_S19),
    binary main_v28 main_v29 main_v30 (maximumf),
    nullary main_c_9 (constantI S_ 32 0#32),
    unary main_c_9 main_v31 (broadcastInDim S8x1x512x512 ![] bcast_S_S8x1x512x512),
    binary main_v12 main_v31 main_v32 (cmpi .slt),
    nullary main_c_10 (constantI S_ 32 19#32),
    unary main_c_10 main_v33 (broadcastInDim S8x1x512x512 ![] bcast_S_S8x1x512x512),
    binary main_v12 main_v33 main_v34 (addi),
    ternary main_v32 main_v34 main_v12 main_v35 (select),
    unary main_v35 main_v36 (broadcastInDim S8x1x512x512x1 ![0, 1, 2, 3] bcast_S8x1x512x512_S8x1x512x512x1_0_1_2_3),
    binary main_v30 main_v36 main_v37 ((fun x i => Host.gather gather_S19_S8x1x512x512x1_S8x1x512x512_n_0_n_n_0_4_1 x i)),
    binary main_v10 main_v10 main_v38 (mulf),
    unary main_v37 main_v39 (broadcastInDim S8x19x512x512 ![0, 1, 2, 3] bcast_S8x1x512x512_S8x19x512x512_0_1_2_3),
    binary main_v38 main_v39 main_v40 (Host.divf),
    nullary main_cst_11 (constant S_ .f32 0x00000000#32),
    binary main_v40 main_cst_11 main_v41 ((fun x v => Host.reduceAdd x v reducesTo_S8x19x512x512_S_d0_1_2_3 h_S_)),
    unary main_v41 main_v42 (Host.negf),
    nullary main_cst_12 (constant S_ .f32 0x43180000#32),
    binary main_v42 main_cst_12 main_v43 (Host.divf) ]

theorem main_eq (c : Dev nD) : main (F := F) c = seq ops := rfl

/-! ## The value -/

/-- The largest logit of each pixel, and at least the word of −∞. -/
def topV (x : Vec F S8x19x512x512 .f32) : Vec F S8x512x512 .f32 :=
  maximumf (broadcastInDim S8x512x512 ![] bcast_S_S8x512x512 (constant S_ .f32 0xFF800000#32))
    (Host.reduce FloatOps.maximumf x (constant S_ .f32 0xFF800000#32) reducesTo_S8x19x512x512_S8x512x512_d1 h_S_)
/-- A number per pixel, repeated over the classes. -/
def spread (v : Vec F S8x512x512 .f32) : Vec F S8x19x512x512 .f32 :=
  broadcastInDim S8x19x512x512 ![0, 1, 2, 3] bcast_S8x1x512x512_S8x19x512x512_0_1_2_3
    (broadcastInDim S8x1x512x512 ![0, 2, 3] bcast_S8x512x512_S8x1x512x512_0_2_3 v)
def expV (x : Vec F S8x19x512x512 .f32) : Vec F S8x19x512x512 .f32 := Host.exp (subf x (spread (topV x)))
/-- The softmax over the classes. -/
def probV (x : Vec F S8x19x512x512 .f32) : Vec F S8x19x512x512 .f32 :=
  Host.divf (expV x) (spread (Host.reduceAdd (expV x) (constant S_ .f32 0x00000000#32) reducesTo_S8x19x512x512_S8x512x512_d1 h_S_))
/-- The predicted class of each pixel. -/
def predV (x : Vec F S8x19x512x512 .f32) : Vec F S8x512x512 .i32 := fun j =>
  (Host.argReduce reducer_argmax_f32_i32 (probV x) (iotaInDim S8x19x512x512 32 1) (constant S_ .f32 0xFF800000#32) (constantI S_ 32 0#32)
    reducesTo_S8x19x512x512_S8x512x512_d1 h_S_ j).2
def predV1 (x : Vec F S8x19x512x512 .f32) : Vec F S8x1x512x512 .i32 :=
  broadcastInDim S8x1x512x512 ![0, 2, 3] bcast_S8x512x512_S8x1x512x512_0_2_3 (predV x)
/-- The predictions in a row, none below zero. -/
def flatV (x : Vec F S8x19x512x512 .f32) : Vec F S2097152 .i32 :=
  maxsi (broadcastInDim S2097152 ![] bcast_S_S2097152 (constantI S_ 32 0#32)) (shapeCast S2097152 (predV1 x) shapeCasts_S8x1x512x512_S2097152)
/-- A negative position counts from the end. -/
def wrapV (x : Vec F S8x19x512x512 .f32) : Vec F S2097152 .i32 :=
  select (cmpi .slt (flatV x) (broadcastInDim S2097152 ![] bcast_S_S2097152 (constantI S_ 32 0#32)))
    (addi (flatV x) (broadcastInDim S2097152 ![] bcast_S_S2097152 (constantI S_ 32 19#32))) (flatV x)
/-- How many pixels each class has. -/
def histV (x : Vec F S8x19x512x512 .f32) : Vec F S19 .i32 :=
  Host.scatter scatter_S19_S2097152x1_S2097152_n_0_0_1 IntOp.addi (broadcastInDim S19 ![] bcast_S_S19 (constantI S_ 32 0#32))
    (broadcastInDim S2097152x1 ![0] bcast_S2097152_S2097152x1_0 (wrapV x)) (broadcastInDim S2097152 ![] bcast_S_S2097152 (constantI S_ 32 1#32))
/-- The weights' denominators, one per class. -/
def denV (x : Vec F S8x19x512x512 .f32) : Vec F S19 .f32 :=
  maximumf (mulf (Host.powf (sitofp .f32 (histV x)) (broadcastInDim S19 ![] bcast_S_S19 (constant S_ .f32 0x3E4CCCCD#32)))
    (broadcastInDim S19 ![] bcast_S_S19 (constant S_ .f32 0x47DEDC67#32))) (broadcastInDim S19 ![] bcast_S_S19 (constant S_ .f32 0x3F800000#32))
def wrapV1 (x : Vec F S8x19x512x512 .f32) : Vec F S8x1x512x512 .i32 :=
  select (cmpi .slt (predV1 x) (broadcastInDim S8x1x512x512 ![] bcast_S_S8x1x512x512 (constantI S_ 32 0#32)))
    (addi (predV1 x) (broadcastInDim S8x1x512x512 ![] bcast_S_S8x1x512x512 (constantI S_ 32 19#32))) (predV1 x)
/-- The denominator of each pixel. -/
def denP (x : Vec F S8x19x512x512 .f32) : Vec F S8x1x512x512 .f32 :=
  Host.gather gather_S19_S8x1x512x512x1_S8x1x512x512_n_0_n_n_0_4_1 (denV x)
    (broadcastInDim S8x1x512x512x1 ![0, 1, 2, 3] bcast_S8x1x512x512_S8x1x512x512x1_0_1_2_3 (wrapV1 x))
def termV (x : Vec F S8x19x512x512 .f32) : Vec F S8x19x512x512 .f32 :=
  Host.divf (mulf (probV x) (probV x)) (broadcastInDim S8x19x512x512 ![0, 1, 2, 3] bcast_S8x1x512x512_S8x19x512x512_0_1_2_3 (denP x))
/-- The loss. -/
def lossV (x : Vec F S8x19x512x512 .f32) : Vec F S_ .f32 :=
  Host.divf (Host.negf (Host.reduceAdd (termV x) (constant S_ .f32 0x00000000#32) reducesTo_S8x19x512x512_S_d0_1_2_3 h_S_)) (constant S_ .f32 0x43180000#32)

theorem out_eq (V : Valuation τ sig (Elt F)) : after ops V (main_v43 : DevRef τ sig) = lossV (V (main_arg0 : DevRef τ sig)) := by
  after_results_simp
  rfl

theorem arg_eq (V : Valuation τ sig (Elt F)) : after ops V (main_arg0 : DevRef τ sig) = V (main_arg0 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub .., binary_bufs_sub ..,
    nullary_bufs_sub .., nullary_bufs_sub .., nullary_bufs_sub .., quaternary_bufs_sub .., quaternary_bufs_sub .., unary_bufs_sub ..,
    reshape_bufs_sub .., nullary_bufs_sub .., unary_bufs_sub .., nullary_bufs_sub .., unary_bufs_sub .., unary_bufs_sub .., binary_bufs_sub ..,
    nullary_bufs_sub .., unary_bufs_sub .., binary_bufs_sub .., nullary_bufs_sub .., unary_bufs_sub .., binary_bufs_sub .., ternary_bufs_sub ..,
    unary_bufs_sub .., nullary_bufs_sub .., unary_bufs_sub .., ternary_bufs_sub .., unary_bufs_sub .., nullary_bufs_sub .., unary_bufs_sub ..,
    binary_bufs_sub .., nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub .., ternary_bufs_sub ..,
    unary_bufs_sub .., binary_bufs_sub .., binary_bufs_sub .., unary_bufs_sub .., binary_bufs_sub .., nullary_bufs_sub .., binary_bufs_sub ..,
    unary_bufs_sub .., nullary_bufs_sub .., binary_bufs_sub ..⟩

/-- The reference runs to its end and leaves the loss. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v43) = lossV (m ((c.tc : Thread nD τ).loc main_arg0))
        ∧ r.2.mem ((c.tc : Thread nD τ).loc main_arg0) = m ((c.tc : Thread nD τ).loc main_arg0) :=
  (θ_run defs _ _).mono (fun _ h c => ⟨(h c main_v43).trans (out_eq _), (h c main_arg0).trans (arg_eq _)⟩)
    (run_seq scopedRefs_eq scopedSems_eq defs main (fun _ => ops) main_eq (fun _ => ops_sub) m ρ)

end Cert.ReferenceIdeal.Own

end
-- ==== Proof.Frames.lean ====
/- The claims that hold at any float values: each program runs to its end and leaves its argument and every counter
   as they were, and the named constant is the number it stands for. -/
module

public import proofs.«01_k».proof.Defs
public import proofs.«01_k».proof.Proof.PipeBits
public import proofs.«01_k».proof.Proof.PipeIdeal
public import proofs.«01_k».proof.Proof.RefRun
public import proofs.«01_k».proof.Proof.Gen.Pre_finite
public import Idealize.ShloMosaic.Lib.Quiescent

@[expose] public section

noncomputable section

namespace Cert.Own

open Idealize.ShloMosaic Idealize.SL.Sem

theorem frame_kernel : Cert.quiescent_Kernel := fun m ρ _ => Cert.Kernel.Own.unchanged m ρ

theorem frame_ideal : Cert.quiescent_KernelIdeal := fun m ρ _ => Cert.KernelIdeal.Own.unchanged m ρ

theorem frame_ideal_finite : Cert.quiescent_KernelIdeal_pre_finite := fun m ρ _ => Cert.KernelIdeal.Own.unchanged m ρ

theorem frame_reference : Cert.quiescent_ReferenceIdeal := fun m ρ _ =>
  (θ_run _ _ _).mono (fun r h => ⟨fun c => (h c).2, sem_eq_zero_of_no_sems rfl r.2⟩) (Cert.ReferenceIdeal.Own.run_main m ρ)

theorem frame_reference_finite : Cert.quiescent_ReferenceIdeal_pre_finite := fun m ρ _ => frame_reference m ρ trivial

/-- The named constant is the reciprocal of the natural logarithm of two. -/
theorem preserves : Cert.preserves_Kernel_KernelIdeal :=
  ⟨rfl, fun _ => IdealRules.named_const.ideal_named _ _ _ _ rfl, IdealRules.named_const.ideal_named_scalar _ _ _ _ rfl⟩

end Cert.Own

end
-- ==== Proof.Pixel.lean ====
/- The loss on real numbers: what one pixel adds to it, and the sum over the pixels.

   A pixel has 19 logits; its class is the first one whose logit is the largest. -/
module

public import Idealize.ShloMosaic.PureOps
public import Idealize.ShloMosaic.PureOps.Ideal
public import Idealize.ShloMosaic.PureOps.Ideal.Laws
public import Idealize.ShloMosaic.Lib.IdealHost

@[expose] public section

noncomputable section

namespace Cert.Msiw

open Idealize.ShloMosaic
open scoped BigOperators

/-- The logits of a pixel (only the first 19 count). -/
abbrev Px := Nat → ℝ

/-- `c` is the first class with the largest logit. -/
def IsBest (f : Px) (c : Nat) : Prop := c < 19 ∧ (∀ d < 19, f d ≤ f c) ∧ ∀ d < c, f d < f c

theorem exists_best (f : Px) : ∃ c, IsBest f c := by
  classical
  have ⟨a, ha, hmax⟩ := Finset.exists_max_image (Finset.range 19) f ⟨0, by simp⟩
  have hex : ∃ c, c < 19 ∧ ∀ d < 19, f d ≤ f c := ⟨a, by simpa using ha, fun d hd => hmax d (by simpa using hd)⟩
  refine ⟨Nat.find hex, (Nat.find_spec hex).1, (Nat.find_spec hex).2, fun d hd => ?_⟩
  have hn := Nat.find_min hex hd
  have h19 := (Nat.find_spec hex).1
  refine lt_of_le_of_ne ((Nat.find_spec hex).2 d (by omega)) fun he => hn ⟨by omega, fun e h => ?_⟩
  rw [he]; exact (Nat.find_spec hex).2 e h

/-- The class of a pixel. -/
def best (f : Px) : Nat := (exists_best f).choose

theorem best_spec (f : Px) : IsBest f (best f) := (exists_best f).choose_spec

theorem best_lt (f : Px) : best f < 19 := (best_spec f).1

theorem IsBest.eq {f : Px} {c d : Nat} (hc : IsBest f c) (hd : IsBest f d) : c = d := by
  rcases lt_trichotomy c d with h | h | h
  · exact absurd (hd.2.2 c h) (not_lt.mpr (hc.2.1 d hd.1))
  · exact h
  · exact absurd (hc.2.2 d h) (not_lt.mpr (hd.2.1 c hc.1))

theorem best_eq {f : Px} {c : Nat} (h : IsBest f c) : best f = c := (best_spec f).eq h

/-- A class reaches the largest logit, and none before it does, exactly when it is the class of the pixel. -/
theorem best_eq_iff (f : Px) {c : Nat} (hc : c < 19) : (f c = f (best f) ∧ ¬ ∃ d < c, f d = f (best f)) ↔ best f = c := by
  constructor
  · rintro ⟨h, hn⟩
    refine best_eq ⟨hc, fun d hd => h ▸ (best_spec f).2.1 d hd, fun d hd => ?_⟩
    rw [h]
    exact lt_of_le_of_ne ((best_spec f).2.1 d (by omega)) fun he => hn ⟨d, hd, he⟩
  · rintro rfl
    exact ⟨rfl, fun ⟨d, hd, he⟩ => ((best_spec f).2.2 d hd).ne he⟩

/-- The sum of the exponentials. -/
def sumExp (f : Px) : ℝ := ∑ c ∈ Finset.range 19, Real.exp (f c)

theorem sumExp_pos (f : Px) : 0 < sumExp f := Finset.sum_pos (fun _ _ => Real.exp_pos _) ⟨0, by simp⟩

/-- The sum of the squared probabilities. -/
def sqProb (f : Px) : ℝ := (∑ c ∈ Finset.range 19, Real.exp (f c) * Real.exp (f c)) / (sumExp f * sumExp f)

/-- The divisor of a class with `n` pixels. -/
def weight (n : ℝ) : ℝ := max (Real.rpow n (13421773 / 67108864) * (14605415 / 128)) 1

theorem weight_pos (n : ℝ) : 0 < weight n := lt_of_lt_of_le one_pos (le_max_right _ _)

section
variable {P : Type} [Fintype P] (f : P → Px)

/-- How many pixels a class has. -/
def count (c : Nat) : ℝ := ∑ p, if best (f p) = c then (1 : ℝ) else 0

/-- The squared probabilities of the pixels of a class. -/
def mass (c : Nat) : ℝ := ∑ p, if best (f p) = c then sqProb (f p) else 0

/-- The loss, class by class. -/
def loss : ℝ := (0 - ∑ c ∈ Finset.range 19, mass f c / weight (count f c)) / 152

/-- The sum over the classes is the sum over the pixels of what each has over the divisor of its class. -/
theorem sum_classes : ∑ c ∈ Finset.range 19, mass f c / weight (count f c) = ∑ p, sqProb (f p) / weight (count f (best (f p))) := by
  simp only [mass, Finset.sum_div]
  rw [Finset.sum_comm]
  refine Finset.sum_congr rfl fun p _ => ?_
  rw [Finset.sum_eq_single (best (f p))]
  · rw [if_pos rfl]
  · intro c _ hc; rw [if_neg (Ne.symm hc), _root_.zero_div]
  · intro h; exact absurd (Finset.mem_range.mpr (best_lt _)) h

/-- The loss does not depend on how the pixels are named. -/
theorem loss_equiv {P' : Type} [Fintype P'] (e : P' ≃ P) : loss (fun p => f (e p)) = loss f := by
  have hc (c : Nat) : count (fun p => f (e p)) c = count f c := e.sum_comp (fun p => if best (f p) = c then (1 : ℝ) else 0)
  have hm (c : Nat) : mass (fun p => f (e p)) c = mass f c := e.sum_comp (fun p => if best (f p) = c then sqProb (f p) else 0)
  simp only [loss, hc, hm]

end

/-! ## The numbers of the programs -/

theorem bits_4096 : Ideal.ofBits .f32 0x45800000#32 = ((4096 : ℝ) : EReal) := by
  simp [Ideal.ofBits, Ideal.ieee, -EReal.coe_mul]; norm_num
theorem bits_inv_4096 : Ideal.ofBits .f32 0x39800000#32 = ((1 / 4096 : ℝ) : EReal) := by
  simp [Ideal.ofBits, Ideal.ieee, -EReal.coe_mul]; norm_num
theorem bits_ratio : Ideal.ofBits .f32 0x3E4CCCCD#32 = ((13421773 / 67108864 : ℝ) : EReal) := by
  simp [Ideal.ofBits, Ideal.ieee, -EReal.coe_mul]; norm_num
theorem bits_scale : Ideal.ofBits .f32 0x47DEDC67#32 = ((14605415 / 128 : ℝ) : EReal) := by
  simp [Ideal.ofBits, Ideal.ieee, -EReal.coe_mul]; norm_num
theorem bits_152 : Ideal.ofBits .f32 0x43180000#32 = ((152 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_zero : Ideal.ofBits .f32 0x00000000#32 = ((0 : ℝ) : EReal) := by
  simp [Ideal.ofBits, Ideal.ieee]
theorem bits_bot : Ideal.ofBits .f32 0xFF800000#32 = ⊥ := by
  simp [Ideal.ofBits, Ideal.ieee]

/-- A finite sum of real numbers is the sum in the extended reals. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem coe_div {x y : ℝ} (h : y ≠ 0) : Ideal.div (x : EReal) (y : EReal) = ((x / y : ℝ) : EReal) := by
  rw [Ideal.div_coe h, ← EReal.coe_mul, mul_one_div]

theorem coe_max (x y : ℝ) : max (x : EReal) (y : EReal) = ((max x y : ℝ) : EReal) := (EReal.coe_strictMono.monotone.map_max).symm

end Cert.Msiw
-- ==== Proof.Chunk.lean ====
/- The loops of the body at one pixel, on real numbers: the first run finds the largest logit and the sum of the
   squared probabilities, the second the class of the pixel. -/
module

public import proofs.«01_k».proof.Proof.Run
public import proofs.«01_k».proof.Proof.Pixel

@[expose] public section

noncomputable section

namespace Cert.Msiw

open Idealize.ShloMosaic
open scoped BigOperators

/-- The factor between the two exponentials, as a real number. -/
abbrev lgR : EReal := (((Real.log 2)⁻¹ : ℝ) : EReal)

/-- The exponential of a logit is the natural one. -/
theorem ex_at (a : FVec Ideal SV .f32) (p : SV.Idx) {y : ℝ} (h : a p = ((y : ℝ) : EReal)) :
    ex (F := Ideal) lgR a p = ((Real.exp y : ℝ) : EReal) := by
  show Ideal.exp2 ((a p : EReal) * lgR) = _
  rw [h, ← EReal.coe_mul, Ideal.exp2_coe]
  congr 1
  show (2 : ℝ) ^ (y * (Real.log 2)⁻¹) = _
  have h2 : Real.log 2 ≠ 0 := (Real.log_pos one_lt_two).ne'
  rw [Real.rpow_def_of_pos two_pos]
  congr 1
  field_simp

theorem or_one (a b : BitVec 1) : a ||| b = 1#1 ↔ a = 1#1 ∨ b = 1#1 := by revert a b; decide
theorem hit_one (t e : BitVec 1) : e &&& (t ^^^ 1#1) = 1#1 ↔ e = 1#1 ∧ ¬ t = 1#1 := by revert t e; decide
theorem ofBool_one (b : Bool) : BitVec.ofBool b = 1#1 ↔ b = true := by revert b; decide

/-- What the first run carries at a pixel after the classes below `n`. -/
def Carries (s : St Ideal) (p : SV.Idx) (f : Px) (n : Nat) : Prop :=
  ∃ e o ze zo se so : ℝ, s.mE p = (e : EReal) ∧ s.mO p = (o : EReal) ∧ s.zE p = (ze : EReal) ∧ s.zO p = (zo : EReal)
    ∧ s.sE p = (se : EReal) ∧ s.sO p = (so : EReal)
    ∧ (∀ i < n, f i ≤ max e o) ∧ (∃ i < n, f i = e) ∧ (∃ i < n, f i = o)
    ∧ ze + zo = ∑ i ∈ Finset.range n, Real.exp (f i)
    ∧ se + so = ∑ i ∈ Finset.range n, Real.exp (f i) * Real.exp (f i)

theorem carries_init {a b : FVec Ideal SV .f32} {p : SV.Idx} {f : Px} (ha : a p = ((f 0 : ℝ) : EReal)) (hb : b p = ((f 1 : ℝ) : EReal)) :
    Carries (St.init lgR a b) p f 2 := by
  refine ⟨f 0, f 1, Real.exp (f 0), Real.exp (f 1), Real.exp (f 0) * Real.exp (f 0), Real.exp (f 1) * Real.exp (f 1), ha, hb, ex_at a p ha,
    ex_at b p hb, ?_, ?_, ?_, ⟨0, by omega, rfl⟩, ⟨1, by omega, rfl⟩, ?_, ?_⟩
  · show (ex (F := Ideal) lgR a p : EReal) * ex (F := Ideal) lgR a p = _
    rw [ex_at a p ha, EReal.coe_mul]
  · show (ex (F := Ideal) lgR b p : EReal) * ex (F := Ideal) lgR b p = _
    rw [ex_at b p hb, EReal.coe_mul]
  · intro i hi
    have : i = 0 ∨ i = 1 := by omega
    rcases this with rfl | rfl
    · exact le_max_left _ _
    · exact le_max_right _ _
  · simp [Finset.sum_range_succ]
  · simp [Finset.sum_range_succ]

theorem Carries.even {s : St Ideal} {a : FVec Ideal SV .f32} {p : SV.Idx} {f : Px} {n : Nat} (h : Carries s p f n)
    (ha : a p = ((f n : ℝ) : EReal)) : Carries (s.even lgR a) p f (n + 1) := by
  obtain ⟨e, o, ze, zo, se, so, he, ho, hze, hzo, hse, hso, hle, ⟨i, hi, hie⟩, ⟨j, hj, hjo⟩, hz, hs⟩ := h
  refine ⟨max e (f n), o, ze + Real.exp (f n), zo, se + Real.exp (f n) * Real.exp (f n), so, ?_, ho, ?_, hzo, ?_, hso, ?_, ?_,
    ⟨j, by omega, hjo⟩, ?_, ?_⟩
  · show max (s.mE p : EReal) (a p) = _
    rw [he, ha, coe_max]
  · show (s.zE p : EReal) + ex (F := Ideal) lgR a p = _
    rw [hze, ex_at a p ha, EReal.coe_add]
  · show (s.sE p : EReal) + ex (F := Ideal) lgR a p * ex (F := Ideal) lgR a p = _
    rw [hse, ex_at a p ha, EReal.coe_add, EReal.coe_mul]
  · intro k hk
    rcases Nat.lt_succ_iff_lt_or_eq.mp hk with h | rfl
    · exact (hle k h).trans (max_le_max (le_max_left _ _) le_rfl)
    · exact (le_max_right _ _).trans (le_max_left _ _)
  · rcases le_total e (f n) with h | h
    · exact ⟨n, by omega, (max_eq_right h).symm⟩
    · exact ⟨i, by omega, hie.trans (max_eq_left h).symm⟩
  · rw [Finset.sum_range_succ, ← hz]; ring
  · rw [Finset.sum_range_succ, ← hs]; ring

/-- The two halves of what the run carries, exchanged. -/
def St.swap (s : St Ideal) : St Ideal := ⟨s.mO, s.mE, s.zO, s.zE, s.sO, s.sE⟩

theorem Carries.swap {s : St Ideal} {p : SV.Idx} {f : Px} {n : Nat} (h : Carries s p f n) : Carries s.swap p f n := by
  obtain ⟨e, o, ze, zo, se, so, he, ho, hze, hzo, hse, hso, hle, hi, hj, hz, hs⟩ := h
  exact ⟨o, e, zo, ze, so, se, ho, he, hzo, hze, hso, hse, fun i h => (max_comm e o) ▸ hle i h, hj, hi,
    (add_comm _ _).trans hz, (add_comm _ _).trans hs⟩

theorem Carries.odd {s : St Ideal} {b : FVec Ideal SV .f32} {p : SV.Idx} {f : Px} {n : Nat} (h : Carries s p f n)
    (hb : b p = ((f n : ℝ) : EReal)) : Carries (s.odd lgR b) p f (n + 1) := (h.swap.even hb).swap

section
variable (x : Vec Ideal SX .f32) (r : Fin 32) (p : SV.Idx) (f : Px) (hf : ∀ c : Fin 19, xs x r c p = ((f c.val : ℝ) : EReal))
include hf

theorem carries_statsV (n : Nat) (h : n < 9) : Carries (statsV lgR x r n h) p f (2 * n + 2) := by
  induction n with
  | zero => exact carries_init (hf 0) (hf 1)
  | succ n ih => exact ((ih (by omega)).even (hf ⟨2 * n + 2, by omega⟩)).odd (hf ⟨2 * n + 3, by omega⟩)

theorem carries_statV : Carries (statV lgR x r) p f 19 := (carries_statsV x r p f hf 8 (by omega)).even (hf 18)

/-- The first run ends with the largest logit. -/
theorem statV_m : (statV lgR x r).m p = ((f (best f) : ℝ) : EReal) := by
  obtain ⟨e, o, ze, zo, se, so, he, ho, -, -, -, -, hle, ⟨i, hi, hie⟩, ⟨j, hj, hjo⟩, -, -⟩ := carries_statV x r p f hf
  show max ((statV lgR x r).mE p : EReal) ((statV lgR x r).mO p) = _
  rw [he, ho, coe_max]
  congr 1
  exact le_antisymm (max_le (hie ▸ (best_spec f).2.1 i hi) (hjo ▸ (best_spec f).2.1 j hj)) (hle _ (best_lt f))

/-- And with the sum of the squared probabilities. -/
theorem statV_q : (statV lgR x r).q p = ((sqProb f : ℝ) : EReal) := by
  obtain ⟨e, o, ze, zo, se, so, -, -, hze, hzo, hse, hso, -, -, -, hz, hs⟩ := carries_statV x r p f hf
  show Ideal.div (((statV lgR x r).sE p : EReal) + (statV lgR x r).sO p)
    ((((statV lgR x r).zE p : EReal) + (statV lgR x r).zO p) * (((statV lgR x r).zE p : EReal) + (statV lgR x r).zO p)) = _
  have hp := sumExp_pos f
  rw [hze, hzo, hse, hso, ← EReal.coe_add, ← EReal.coe_add, ← EReal.coe_mul, hz, hs]
  exact coe_div (mul_pos hp hp).ne'

/-- A class is marked when its logit is the largest. -/
theorem eqm_at (c : Nat) (h : c < 19) : eqm (statV lgR x r).m (xs x r ⟨c, h⟩) p = 1#1 ↔ f c = f (best f) := by
  show Ideal.cmp .oeq (xs x r ⟨c, h⟩ p) ((statV lgR x r).m p) = 1#1 ↔ _
  rw [hf, statV_m x r p f hf]
  simp [Ideal.cmp, EReal.coe_eq_coe_iff, ofBool_one]

theorem tkV_at (n : Nat) (h : n ≤ 9) : tkV lgR x r n h p = 1#1 ↔ ∃ d < 2 * n, f d = f (best f) := by
  induction n with
  | zero =>
    show (0#1 = 1#1) ↔ _
    simp
  | succ n ih =>
    show ((tkV lgR x r n _ p ||| eqm _ _ p) ||| eqm _ _ p) = 1#1 ↔ _
    rw [or_one, or_one, ih, eqm_at x r p f hf, eqm_at x r p f hf]
    constructor
    · rintro ((⟨d, hd, he⟩ | he) | he)
      · exact ⟨d, by omega, he⟩
      · exact ⟨2 * n, by omega, he⟩
      · exact ⟨2 * n + 1, by omega, he⟩
    · rintro ⟨d, hd, he⟩
      have : d < 2 * n ∨ d = 2 * n ∨ d = 2 * n + 1 := by omega
      rcases this with h | rfl | rfl
      · exact .inl (.inl ⟨d, h, he⟩)
      · exact .inl (.inr he)
      · exact .inr he

/-- The pixels of the even class of a pair. -/
theorem hitE_at (n : Nat) (h : n ≤ 9) : hitE lgR x r n h p = 1#1 ↔ best f = 2 * n := by
  show (eqm _ _ p &&& (tkV lgR x r n h p ^^^ 1#1)) = 1#1 ↔ _
  rw [hit_one, eqm_at x r p f hf, tkV_at x r p f hf]
  exact best_eq_iff f (by omega)

/-- The pixels of its odd class. -/
theorem hitO_at (n : Nat) (h : n < 9) : hitO lgR x r n h p = 1#1 ↔ best f = 2 * n + 1 := by
  show (eqm _ _ p &&& ((tkV lgR x r n h.le p ||| eqm _ _ p) ^^^ 1#1)) = 1#1 ↔ _
  rw [hit_one, or_one, eqm_at x r p f hf, eqm_at x r p f hf, tkV_at x r p f hf, ← best_eq_iff f (by omega)]
  have : ((∃ d < 2 * n, f d = f (best f)) ∨ f (2 * n) = f (best f)) ↔ ∃ d < 2 * n + 1, f d = f (best f) := by
    constructor
    · rintro (⟨d, hd, he⟩ | he)
      · exact ⟨d, by omega, he⟩
      · exact ⟨2 * n, by omega, he⟩
    · rintro ⟨d, hd, he⟩
      rcases Nat.lt_succ_iff_lt_or_eq.mp hd with h | rfl
      · exact .inl ⟨d, h, he⟩
      · exact .inr he
  rw [this]

end

/-- A choice by a mark that stands for a proposition. -/
theorem select_iff {α : Type} {c : BitVec 1} {q : Prop} [Decidable q] (h : c = 1#1 ↔ q) (a b : α) :
    Scalar.select c a b = if q then a else b := by
  unfold Scalar.select
  exact if_congr h rfl rfl

/-- What a pixel of class `b` adds to the slab of a pair. -/
def hitW (b n : Nat) : ℝ := (if b = 2 * n then 4096 else 0) + (if b = 2 * n + 1 then 1 else 0)

/-- The class a slab of sums belongs to. -/
def slabCls (k : Nat) : Nat := if k < 10 then 2 * k else 2 * (k - 10) + 1

section
variable (x : Vec Ideal SX .f32) (r : Fin 32) (p : SV.Idx) (f : Px) (hf : ∀ c : Fin 19, xs x r c p = ((f c.val : ℝ) : EReal))
include hf

theorem dC_at (n : Nat) (h : n < 9) :
    dC (F := Ideal) (hitE lgR x r n h.le) (hitO lgR x r n h) p = ((hitW (best f) n : ℝ) : EReal) := by
  show Scalar.select (hitE lgR x r n h.le p) (Ideal.ofBits .f32 0x45800000#32)
    (Scalar.select (hitO lgR x r n h p) (Ideal.ofBits .f32 0x3F800000#32) (Ideal.ofBits .f32 0x00000000#32)) = _
  rw [select_iff (hitE_at x r p f hf n h.le), select_iff (hitO_at x r p f hf n h), bits_4096, bits_one, bits_zero]
  unfold hitW
  by_cases h0 : best f = 2 * n
  · simp [h0]
  · by_cases h1 : best f = 2 * n + 1 <;> simp [h0, h1]

theorem dC'_at : dC' (F := Ideal) (hitE lgR x r 9 le_rfl) p = ((hitW (best f) 9 : ℝ) : EReal) := by
  show Scalar.select (hitE lgR x r 9 le_rfl p) (Ideal.ofBits .f32 0x45800000#32) (Ideal.ofBits .f32 0x00000000#32) = _
  rw [select_iff (hitE_at x r p f hf 9 le_rfl), bits_4096, bits_zero]
  have := best_lt f
  unfold hitW
  by_cases h0 : best f = 18
  · simp [h0]
  · have h1 : best f ≠ 19 := by omega
    simp [h0, h1]

theorem dSE_at (n : Nat) (h : n ≤ 9) :
    dS (F := Ideal) (hitE lgR x r n h) (statV lgR x r).q p = (((if best f = 2 * n then sqProb f else 0) : ℝ) : EReal) := by
  show Scalar.select (hitE lgR x r n h p) ((statV lgR x r).q p) (Ideal.ofBits .f32 0x00000000#32) = _
  rw [select_iff (hitE_at x r p f hf n h), bits_zero, statV_q x r p f hf]
  split <;> rfl

theorem dSO_at (n : Nat) (h : n < 9) :
    dS (F := Ideal) (hitO lgR x r n h) (statV lgR x r).q p = (((if best f = 2 * n + 1 then sqProb f else 0) : ℝ) : EReal) := by
  show Scalar.select (hitO lgR x r n h p) ((statV lgR x r).q p) (Ideal.ofBits .f32 0x00000000#32) = _
  rw [select_iff (hitO_at x r p f hf n h), bits_zero, statV_q x r p f hf]
  split <;> rfl

end

end Cert.Msiw
-- ==== Proof.Slabs.lean ====
/- The scratch arrays on real numbers: a block of logits adds to every slab, lane by lane, what its pixels of that
   lane have for the slab. -/
module

public import proofs.«01_k».proof.Proof.Chunk
public import Idealize.ShloMosaic.Lib.ValueLayout

@[expose] public section

noncomputable section

namespace Cert.Msiw

open Idealize.ShloMosaic Idealize.ShloMosaic.ValueIdx
open scoped BigOperators

/-- One slab of a scratch array of `N` slabs, with `d` added. -/
theorem slab_at {N : Nat} (j : Fin N) (inb : ∀ a, (![j.val, 0, 0] : Fin 3 → Nat) a + SV1.size a ≤ (⟨3, ![N, 8, 512]⟩ : Shape).size a)
    (a : (⟨3, ![N, 8, 512]⟩ : Shape).Idx → EReal) (d : FVec Ideal SV .f32) (k : Fin N) (u : Fin 8) (v : Fin 512) :
    (Rect.unit (s := ⟨3, ![N, 8, 512]⟩) ![j.val, 0, 0] SV1.size inb).overlay a
      (shapeCast SV1 (addf (F := Ideal) (φ := .f32)
        (shapeCast SV (fun i => a ((Rect.unit (s := ⟨3, ![N, 8, 512]⟩) ![j.val, 0, 0] SV1.size inb).emb i)) sc_v) d) sc_w) (ix3 k u v)
      = if k = j then a (ix3 k u v) + d (ix2 u v) else a (ix3 k u v) := by
  by_cases h : k = j
  · subst h
    have e : (Rect.unit (s := ⟨3, ![N, 8, 512]⟩) ![k.val, 0, 0] SV1.size inb).emb (ix3 (0 : Fin 1) u v) = ix3 k u v := by
      funext b; apply Fin.ext; rw [Rect.emb_apply]
      match b with
      | ⟨0, _⟩ => simp [Rect.unit]
      | ⟨1, _⟩ => simp [Rect.unit]
      | ⟨2, _⟩ => simp [Rect.unit]
    rw [if_pos rfl]
    conv_lhs => rw [← e]
    rw [Rect.overlay_emb]
    refine (shapeCast_ab_1ab_apply _ sc_w (0 : Fin 1) u v).trans ?_
    show (shapeCast SV _ sc_v (ix2 u v) : EReal) + d (ix2 u v) = _
    refine congrArg (· + d (ix2 u v)) ((shapeCast_1ab_ab_apply _ sc_v u v).trans (congrArg a e))
  · rw [if_neg h]
    refine Rect.overlay_of_not_mem _ _ _ fun hm => h ?_
    have h0 := Rect.mem_set_unit.mp hm 0
    have h1 : j.val ≤ k.val ∧ k.val < j.val + 1 := h0
    exact Fin.ext (by omega)

theorem addCv_at (j : Fin 10) (d : FVec Ideal SV .f32) (a : Vec Ideal SC .f32) (k : Fin 10) (u : Fin 8) (v : Fin 512) :
    (addCv j d a (ix3 k u v) : EReal) = if k = j then (a (ix3 k u v) : EReal) + d (ix2 u v) else a (ix3 k u v) := slab_at j (inb_c j) a d k u v

theorem addSv_at (j : Fin 20) (d : FVec Ideal SV .f32) (a : Vec Ideal SS .f32) (k : Fin 20) (u : Fin 8) (v : Fin 512) :
    (addSv j d a (ix3 k u v) : EReal) = if k = j then (a (ix3 k u v) : EReal) + d (ix2 u v) else a (ix3 k u v) := slab_at j (inb_s j) a d k u v

/-- A logit of a chunk is one of the block. -/
theorem xs_at (x : Vec Ideal SX .f32) (r : Fin 32) (c : Fin 19) (u : Fin 8) (v : Fin 512) :
    xs x r c (ix2 u v) = x (ix4 (0 : Fin 1) c ⟨8 * r.val + u.val, by omega⟩ v) := by
  unfold xs
  refine (shapeCast_apply _ sc_x (ix2 u v) (ix4 (0 : Fin 1) (0 : Fin 1) u v) ?_).trans (congrArg x ?_)
  · rw [Shape.rowMajor_val_four, Shape.rowMajor_val_two]
    show ((0 * 1 + 0) * 8 + u.val) * 512 + v.val = u.val * 512 + v.val
    omega
  · funext b; apply Fin.ext; rw [Rect.emb_apply]
    match b with
    | ⟨0, _⟩ => simp [Rect.unit]
    | ⟨1, _⟩ => simp [Rect.unit]
    | ⟨2, _⟩ => simp [Rect.unit]
    | ⟨3, _⟩ => simp [Rect.unit]

/-- What a pixel of logits `f` adds to slab `k` of the sums. -/
def sumW (f : Px) (k : Nat) : ℝ := if best f = slabCls k then sqProb f else 0

section
variable (x : Vec Ideal SX .f32) (r : Fin 32) (u : Fin 8) (v : Fin 512) (f : Px)
  (hf : ∀ c : Fin 19, xs x r c (ix2 u v) = ((f c.val : ℝ) : EReal))
include hf

theorem histC_at (a : Vec Ideal SC .f32) (k : Fin 10) (n : Nat) (h : n ≤ 9) :
    (histC lgR x r a n h (ix3 k u v) : EReal)
      = if k.val < n then (a (ix3 k u v) : EReal) + ((hitW (best f) k : ℝ) : EReal) else a (ix3 k u v) := by
  induction n with
  | zero => rfl
  | succ n ih =>
    refine (addCv_at _ _ _ k u v).trans ?_
    rw [ih (by omega), dC_at x r _ f hf n h]
    by_cases h1 : k.val = n
    · subst h1; simp
    · have h2 : k ≠ ⟨n, by omega⟩ := fun e => h1 (congrArg Fin.val e)
      rw [if_neg h2]
      exact if_congr (by omega) rfl rfl

theorem chunkC_at (a : Vec Ideal SC .f32) (k : Fin 10) :
    (chunkC lgR x r a (ix3 k u v) : EReal) = (a (ix3 k u v) : EReal) + ((hitW (best f) k : ℝ) : EReal) := by
  refine (addCv_at _ _ _ k u v).trans ?_
  rw [histC_at x r u v f hf, dC'_at x r _ f hf]
  by_cases h1 : k = 9
  · subst h1; simp
  · have h2 : k.val < 9 := by
      have : k.val ≠ 9 := fun e => h1 (Fin.ext e)
      omega
    rw [if_neg h1, if_pos h2]

theorem histS_at (a : Vec Ideal SS .f32) (k : Fin 20) (n : Nat) (h : n ≤ 9) :
    (histS lgR x r a n h (ix3 k u v) : EReal)
      = if slabCls k < 2 * n then (a (ix3 k u v) : EReal) + ((sumW f k : ℝ) : EReal) else a (ix3 k u v) := by
  induction n with
  | zero => rfl
  | succ n ih =>
    refine (addSv_at _ _ _ k u v).trans ?_
    rw [addSv_at, ih (by omega), dSE_at x r _ f hf n, dSO_at x r _ f hf n h]
    unfold sumW
    by_cases hk : k.val < 10
    · have hc : slabCls k = 2 * k.val := if_pos hk
      have h1 : k ≠ ⟨10 + n, by omega⟩ := fun e => by have := congrArg Fin.val e; simp at this; omega
      rw [if_neg h1, hc]
      by_cases h2 : k.val = n
      · have h3 : k = ⟨n, by omega⟩ := Fin.ext h2
        rw [if_pos h3, h2, if_neg (lt_irrefl _), if_pos (show 2 * n < 2 * (n + 1) by omega)]
      · have h3 : k ≠ ⟨n, by omega⟩ := fun e => h2 (congrArg Fin.val e)
        rw [if_neg h3]
        exact if_congr (by omega) rfl rfl
    · have hc : slabCls k = 2 * (k.val - 10) + 1 := if_neg hk
      have h1 : k ≠ ⟨n, by omega⟩ := fun e => by have := congrArg Fin.val e; simp at this; omega
      rw [if_neg h1, hc]
      by_cases h2 : k.val = 10 + n
      · have h3 : k = ⟨10 + n, by omega⟩ := Fin.ext h2
        rw [if_pos h3, h2, Nat.add_sub_cancel_left, if_neg (show ¬ 2 * n + 1 < 2 * n by omega), if_pos (show 2 * n + 1 < 2 * (n + 1) by omega)]
      · have h3 : k ≠ ⟨10 + n, by omega⟩ := fun e => h2 (congrArg Fin.val e)
        rw [if_neg h3]
        exact if_congr (by omega) rfl rfl

theorem chunkS_at (a : Vec Ideal SS .f32) (k : Fin 20) :
    (chunkS lgR x r a (ix3 k u v) : EReal) = (a (ix3 k u v) : EReal) + ((sumW f k : ℝ) : EReal) := by
  refine (addSv_at _ _ _ k u v).trans ?_
  rw [histS_at x r u v f hf, dSE_at x r _ f hf 9]
  have hb := best_lt f
  unfold sumW
  by_cases h1 : k = 9
  · subst h1; simp [slabCls]
  · have h0 : k.val ≠ 9 := fun e => h1 (Fin.ext e)
    rw [if_neg h1]
    by_cases h2 : slabCls k < 2 * 9
    · rw [if_pos h2]
    · have h3 : slabCls k = 19 := by
        unfold slabCls at h2 ⊢
        split at h2 <;> rename_i h4
        · omega
        · rw [if_neg h4]; omega
      rw [if_neg h2, h3, if_neg (by omega)]
      simp

end

section
variable (x : Vec Ideal SX .f32) (G : Nat → Fin 512 → Px)
  (hG : ∀ (c : Fin 19) (h : Fin 256) (w : Fin 512), x (ix4 (0 : Fin 1) c h w) = ((G h.val w c.val : ℝ) : EReal))
include hG

/-- The chunks of a block, one after the other. -/
theorem blockC_at (a : Vec Ideal SC .f32) (k : Fin 10) (u : Fin 8) (v : Fin 512) (n : Nat) (h : n ≤ 32) :
    (blockC lgR x a n h (ix3 k u v) : EReal)
      = (a (ix3 k u v) : EReal) + ((∑ r ∈ Finset.range n, hitW (best (G (8 * r + u) v)) k : ℝ) : EReal) := by
  induction n with
  | zero =>
    show (a (ix3 k u v) : EReal) = _
    simp
  | succ n ih =>
    refine (chunkC_at x ⟨n, h⟩ u v (G (8 * n + u) v) (fun c => (xs_at x _ c u v).trans (hG c _ v)) _ k).trans ?_
    rw [ih (by omega), Finset.sum_range_succ, EReal.coe_add, add_assoc]

theorem blockS_at (a : Vec Ideal SS .f32) (k : Fin 20) (u : Fin 8) (v : Fin 512) (n : Nat) (h : n ≤ 32) :
    (blockS lgR x a n h (ix3 k u v) : EReal)
      = (a (ix3 k u v) : EReal) + ((∑ r ∈ Finset.range n, sumW (G (8 * r + u) v) k : ℝ) : EReal) := by
  induction n with
  | zero =>
    show (a (ix3 k u v) : EReal) = _
    simp
  | succ n ih =>
    refine (chunkS_at x ⟨n, h⟩ u v (G (8 * n + u) v) (fun c => (xs_at x _ c u v).trans (hG c _ v)) _ k).trans ?_
    rw [ih (by omega), Finset.sum_range_succ, EReal.coe_add, add_assoc]

end

end Cert.Msiw
-- ==== Proof.Finish.lean ====
/- The last grid point on real numbers: the packed hits are taken apart, counted over the lanes, and the loss is
   made of the counts and of the sums. -/
module

public import proofs.«01_k».proof.Proof.Slabs
public import Idealize.ShloMosaic.Lib.ValueLayoutCasts
public import Idealize.ShloMosaic.Lib.Pointwise.Reduce

@[expose] public section

noncomputable section

namespace Cert.Msiw

open Idealize.ShloMosaic hiding ix0 ix1 ix2 ix3 ix4 ix5
open Idealize.ShloMosaic.ValueIdx
open scoped BigOperators

/-- A double sum of real numbers. -/
theorem coe_sum2 {n0 n1 : Nat} (g : Fin n0 → Fin n1 → ℝ) :
    (∑ u, ∑ v, (g u v : EReal)) = ((∑ u, ∑ v, g u v : ℝ) : EReal) := by
  rw [coe_sum]
  exact Finset.sum_congr rfl fun u _ => (coe_sum _ _).symm

/-- A scratch array summed over its lanes. -/
theorem lanes_at {N : Nat} (src : FVec Ideal ⟨3, ![N, 8, 512]⟩ .f32) (h : (⟨3, ![N, 8, 512]⟩ : Shape).Reduces [1, 2] ⟨1, ![N]⟩)
    (hφ : FKind.Formats .f32) (hacc : 0x00000000#32 = FKind.add.neutral .f32 hφ) (g : Fin N → Fin 8 → Fin 512 → ℝ)
    (hg : ∀ k u v, src (ix3 k u v) = ((g k u v : ℝ) : EReal)) (k : Fin N) :
    multiReduction .add [1, 2] ⟨1, ![N]⟩ src 0x00000000#32 h hφ hacc (ix1 k) = ((∑ u, ∑ v, g k u v : ℝ) : EReal) := by
  rw [← coe_sum2]
  refine (Ideal.reduceAdd_r3_a12 h src (ix1 k)).trans ?_
  exact Finset.sum_congr rfl fun u _ => Finset.sum_congr rfl fun v _ => hg k u v

/-- A vector over classes written as a column, through a cube. -/
theorem column_at {N : Nat} {α : Type} (y : (⟨1, ![N]⟩ : Shape).Idx → α) (h : (⟨1, ![N]⟩ : Shape).ShapeCasts ⟨3, ![N, 1, 1]⟩)
    (h' : (⟨3, ![N, 1, 1]⟩ : Shape).ShapeCasts ⟨2, ![N, 1]⟩) (k : Fin N) (z : Fin 1) :
    shapeCast ⟨2, ![N, 1]⟩ (shapeCast ⟨3, ![N, 1, 1]⟩ y h) h' (ix2 k z) = y (ix1 k) := by
  have hz : z.val = 0 := by omega
  refine (shapeCast_apply _ h' (ix2 k z) (ix3 k (0 : Fin 1) (0 : Fin 1)) ?_).trans (shapeCast_apply _ h _ (ix1 k) ?_)
  · rw [Shape.rowMajor_val_three, Shape.rowMajor_val_two]
    show (k.val * 1 + 0) * 1 + 0 = k.val * 1 + z.val
    omega
  · rw [Shape.rowMajor_val_three, Shape.rowMajor_val_one]
    show k.val = (k.val * 1 + 0) * 1 + 0
    omega

section
variable (p : Vec Ideal SC .f32) (e o : Fin 10 → Fin 8 → Fin 512 → Nat) (ho : ∀ k u v, o k u v < 4096)
  (hp : ∀ k u v, p (ix3 k u v) = ((4096 * (e k u v : ℝ) + (o k u v : ℝ) : ℝ) : EReal))
include ho hp

/-- The even part of a lane of packed hits. -/
theorem floor_at (k : Fin 10) (u : Fin 8) (v : Fin 512) :
    floor (F := Ideal) (φ := .f32) (mulf p (broadcast SC (Scalar.ofBits .f32 0x39800000#32))) (ix3 k u v) = ((e k u v : ℝ) : EReal) := by
  show Ideal.liftRound Int.floor ((p (ix3 k u v) : EReal) * Ideal.ofBits .f32 0x39800000#32) = _
  rw [hp, bits_inv_4096, ← EReal.coe_mul, Ideal.liftRound_coe]
  have h1 : Int.floor ((4096 * (e k u v : ℝ) + (o k u v : ℝ)) * (1 / 4096)) = (e k u v : ℤ) := by
    rw [Int.floor_eq_iff]
    have h2 : (o k u v : ℝ) < 4096 := by exact_mod_cast ho k u v
    have h3 : (0 : ℝ) ≤ (o k u v : ℝ) := Nat.cast_nonneg _
    constructor
    · push_cast; linarith
    · push_cast; linarith
  rw [h1]
  norm_cast

theorem cntE_at (k : Fin 10) (z : Fin 1) : cntE (F := Ideal) p (ix2 k z) = ((∑ u, ∑ v, (e k u v : ℝ) : ℝ) : EReal) := by
  unfold cntE
  refine (column_at _ _ _ k z).trans ?_
  exact lanes_at _ _ _ _ (fun k u v => (e k u v : ℝ)) (floor_at p e o ho hp) k

theorem cntO_at (k : Fin 9) (z : Fin 1) :
    cntO (F := Ideal) p (ix2 k z) = ((∑ u, ∑ v, (o ⟨k.val, by omega⟩ u v : ℝ) : ℝ) : EReal) := by
  unfold cntO
  have hz : z.val = 0 := by omega
  refine (shapeCast_apply _ _ (ix2 k z) (ix3 k (0 : Fin 1) (0 : Fin 1)) ?_).trans ?_
  · rw [Shape.rowMajor_val_three, Shape.rowMajor_val_two]
    show (k.val * 1 + 0) * 1 + 0 = k.val * 1 + z.val
    omega
  refine (extractStridedSlice_apply _ _ _ _ (ix3 (⟨k.val, by omega⟩ : Fin 10) (0 : Fin 1) (0 : Fin 1)) ?_).trans ?_
  · intro a
    match a with
    | ⟨0, _⟩ => show k.val = 0 + k.val; omega
    | ⟨1, _⟩ => rfl
    | ⟨2, _⟩ => rfl
  refine (shapeCast_apply _ _ _ (ix1 (⟨k.val, by omega⟩ : Fin 10)) ?_).trans ?_
  · rw [Shape.rowMajor_val_three, Shape.rowMajor_val_one]
    show k.val = (k.val * 1 + 0) * 1 + 0
    omega
  refine lanes_at _ _ _ _ (fun k u v => (o k u v : ℝ)) (fun k u v => ?_) _
  show (p (ix3 k u v) : EReal) - floor (F := Ideal) (φ := .f32) (mulf p (broadcast SC (Scalar.ofBits .f32 0x39800000#32))) (ix3 k u v)
    * Ideal.ofBits .f32 0x45800000#32 = _
  rw [floor_at p e o ho hp, hp, bits_4096, ← EReal.coe_mul, ← EReal.coe_sub]
  congr 1
  ring

end

/-- The sums over the lanes. -/
theorem sumA_at (q : Vec Ideal SS .f32) (g : Fin 20 → Fin 8 → Fin 512 → ℝ) (hq : ∀ k u v, q (ix3 k u v) = ((g k u v : ℝ) : EReal))
    (k : Fin 20) (z : Fin 1) : sumA (F := Ideal) q (ix2 k z) = ((∑ u, ∑ v, g k u v : ℝ) : EReal) := by
  unfold sumA
  refine (column_at _ _ _ k z).trans ?_
  exact lanes_at _ _ _ _ g hq k

/-- The divisor of a class, from its number of hits. -/
theorem den_at (s : Shape) (n : FVec Ideal s .f32) (j : s.Idx) {y : ℝ} (hy : 0 ≤ y) (hn : n j = ((y : ℝ) : EReal)) :
    den (F := Ideal) s n j = ((weight y : ℝ) : EReal) := by
  show max (Scalar.select (Ideal.cmp .ogt (n j) (Ideal.ofBits .f32 0x00000000#32))
      (Ideal.exp (Ideal.ofBits .f32 0x3E4CCCCD#32 * Ideal.log (Scalar.select (Ideal.cmp .ogt (n j) (Ideal.ofBits .f32 0x00000000#32)) (n j)
        (Ideal.ofBits .f32 0x3F800000#32))) * Ideal.ofBits .f32 0x47DEDC67#32) (Ideal.ofBits .f32 0x00000000#32) : EReal)
    (Ideal.ofBits .f32 0x3F800000#32) = _
  have hc : Ideal.cmp .ogt (n j) (Ideal.ofBits .f32 0x00000000#32) = 1#1 ↔ 0 < y := by
    rw [hn, bits_zero]
    simp [Ideal.cmp, ofBool_one]
  rw [select_iff hc, select_iff hc, hn, bits_zero, bits_one, bits_ratio, bits_scale]
  unfold weight
  by_cases h : 0 < y
  · rw [if_pos h, if_pos h, Ideal.log_coe, if_neg (not_le.mpr h), ← EReal.coe_mul, Ideal.exp_coe, ← EReal.coe_mul, coe_max]
    congr 3
    show _ = y ^ (13421773 / 67108864 : ℝ)
    rw [Real.rpow_def_of_pos h, mul_comm]
  · obtain rfl : y = 0 := le_antisymm (not_lt.mp h) hy
    rw [if_neg h, coe_max]
    congr 2
    show _ = (0 : ℝ) ^ (13421773 / 67108864 : ℝ) * _
    rw [Real.zero_rpow (by norm_num), zero_mul]

/-- One number summed over a column. -/
theorem total_at {N : Nat} (src : FVec Ideal ⟨2, ![N, 1]⟩ .f32) (h : (⟨2, ![N, 1]⟩ : Shape).Reduces [0] S1)
    (hφ : FKind.Formats .f32) (hacc : 0x00000000#32 = FKind.add.neutral .f32 hφ) (hs : S1.ShapeCasts SO) (g : Fin N → ℝ)
    (hg : ∀ k, src (ix2 k (0 : Fin 1)) = ((g k : ℝ) : EReal)) :
    shapeCast SO (multiReduction .add [0] S1 src 0x00000000#32 h hφ hacc) hs (ix2 (0 : Fin 1) (0 : Fin 1)) = ((∑ k, g k : ℝ) : EReal) := by
  refine (shapeCast_apply _ hs _ (ix1 (0 : Fin 1)) ?_).trans ?_
  · rw [Shape.rowMajor_val_two, Shape.rowMajor_val_one]; rfl
  rw [coe_sum]
  refine (Ideal.reduceAdd_r2_a0 h src _).trans ?_
  exact Finset.sum_congr rfl fun k _ => hg k

section
variable (p : Vec Ideal SC .f32) (e o : Fin 10 → Fin 8 → Fin 512 → Nat) (ho : ∀ k u v, o k u v < 4096)
  (hp : ∀ k u v, p (ix3 k u v) = ((4096 * (e k u v : ℝ) + (o k u v : ℝ) : ℝ) : EReal))
  (q : Vec Ideal SS .f32) (g : Fin 20 → Fin 8 → Fin 512 → ℝ) (hq : ∀ k u v, q (ix3 k u v) = ((g k u v : ℝ) : EReal))
include ho hp hq

theorem totE_at : totE (F := Ideal) p q (ix2 (0 : Fin 1) (0 : Fin 1))
    = ((∑ k : Fin 10, (∑ u, ∑ v, g ⟨k.val, by omega⟩ u v) / weight (∑ u, ∑ v, (e k u v : ℝ)) : ℝ) : EReal) := by
  unfold totE
  refine total_at _ _ _ _ _ _ fun k => ?_
  show Ideal.div (extractStridedSlice S10b ![0, 0] (sumA (F := Ideal) q) _ (ix2 k (0 : Fin 1))) (den (F := Ideal) S10b (cntE p) (ix2 k (0 : Fin 1))) = _
  rw [den_at S10b (cntE (F := Ideal) p) _ (Finset.sum_nonneg fun _ _ => Finset.sum_nonneg fun _ _ => Nat.cast_nonneg _) (cntE_at p e o ho hp k 0),
    extractStridedSlice_apply ![0, 0] (sumA (F := Ideal) q) (by decide) (ix2 k (0 : Fin 1)) (ix2 (⟨k.val, by omega⟩ : Fin 20) (0 : Fin 1)) (by
      intro a
      match a with
      | ⟨0, _⟩ => show k.val = 0 + k.val; omega
      | ⟨1, _⟩ => rfl), sumA_at q g hq]
  exact coe_div (weight_pos _).ne'

theorem totO_at : totO (F := Ideal) p q (ix2 (0 : Fin 1) (0 : Fin 1))
    = ((∑ k : Fin 9, (∑ u, ∑ v, g ⟨10 + k.val, by omega⟩ u v) / weight (∑ u, ∑ v, (o ⟨k.val, by omega⟩ u v : ℝ)) : ℝ) : EReal) := by
  unfold totO
  refine total_at _ _ _ _ _ _ fun k => ?_
  show Ideal.div (extractStridedSlice S9b ![10, 0] (sumA (F := Ideal) q) _ (ix2 k (0 : Fin 1))) (den (F := Ideal) S9b (cntO p) (ix2 k (0 : Fin 1))) = _
  rw [den_at S9b (cntO (F := Ideal) p) _ (Finset.sum_nonneg fun _ _ => Finset.sum_nonneg fun _ _ => Nat.cast_nonneg _) (cntO_at p e o ho hp k 0),
    extractStridedSlice_apply ![10, 0] (sumA (F := Ideal) q) (by decide) (ix2 k (0 : Fin 1)) (ix2 (⟨10 + k.val, by omega⟩ : Fin 20) (0 : Fin 1)) (by
      intro a
      match a with
      | ⟨0, _⟩ => rfl
      | ⟨1, _⟩ => rfl), sumA_at q g hq]
  exact coe_div (weight_pos _).ne'

/-- The number the last grid point writes. -/
theorem outV_at : outV (F := Ideal) p q (ix2 (0 : Fin 1) (0 : Fin 1))
    = (((0 - ((∑ k : Fin 10, (∑ u, ∑ v, g ⟨k.val, by omega⟩ u v) / weight (∑ u, ∑ v, (e k u v : ℝ)))
        + ∑ k : Fin 9, (∑ u, ∑ v, g ⟨10 + k.val, by omega⟩ u v) / weight (∑ u, ∑ v, (o ⟨k.val, by omega⟩ u v : ℝ)))) / 152 : ℝ) : EReal) := by
  show Ideal.div (Ideal.ofBits .f32 0x00000000#32 - (totE (F := Ideal) p q (ix2 (0 : Fin 1) (0 : Fin 1)) + totO (F := Ideal) p q (ix2 (0 : Fin 1) (0 : Fin 1)) : EReal))
    (Ideal.ofBits .f32 0x43180000#32) = _
  rw [totE_at p e o ho hp q g hq, totO_at p e o ho hp q g hq, bits_zero, bits_152, ← EReal.coe_add, ← EReal.coe_sub]
  exact coe_div (by norm_num)

end

end Cert.Msiw
-- ==== Proof.ValueIdeal.lean ====
/- The launch's result: the number the last grid point writes, read back as the program's scalar. -/
module

public import proofs.«01_k».proof.Proof.PipeIdeal
public import Idealize.ShloMosaic.Lib.Pipeline.Value
public import Idealize.ShloMosaic.Lib.StableHlo.Run

@[expose] public section

noncomputable section

namespace Cert.KernelIdeal.Own

open Idealize.ShloMosaic Idealize.ShloMosaic.TcCoe Idealize.ShloMosaic.Tactic Idealize.ShloMosaic.StableHlo
open Idealize.SL Idealize.SL.Sem
open Cert.KernelIdeal Cert.KernelIdeal.Gen

variable {F : FTy → Type} [FloatOps F] [Named F]
variable (m : (ℓ : Loc nD τ sig) → Buf (Elt F) ℓ) (ρ : Dev nD → PrngReg)

/-- The last grid point. -/
def last : Fin cfg0.N := ⟨15, by rw [show cfg0.N = 16 from N_0]; decide⟩

/-- The one-cell array the launch writes. -/
abbrev cell (c : Dev nD) : Buf (Elt F) ((c : Thread nD τ).loc main_v0) := outAt m c last

theorem flushed_cell (c : Dev nD) (t : Fin cfg0.N) (hf : (cfg0.win 1).flush t = true) :
    (dats m 0 c).flushed 1 t = ((cfg0.win 1).blk t).view.read (Elt F) (cell m c) := by
  have hN : cfg0.N = 16 := N_0
  have h3 : t.val = 15 := by have := (flush0_1 t).mp hf; have := t.isLt; omega
  obtain rfl : t = last := Fin.ext h3
  show (cfg0.win 1).cut (grid0.coords last) ((dats m 0 c).after 1 last) = _
  rw [after_out]
  have hz : (fun a => win0_1.index last a * main_v0.ty.shape.size a) = fun _ => 0 := funext fun a => by fin_cases a <;> decide
  exact (Memref.read_access_unit_zero (Elt F) main_v0 hz (fun a => by rw [congrFun hz a]; simp) (cell m c)).symm

theorem final_cell (c : Dev nD) : (dats m 0 c).arrAt 1 cfg0.N = cell m c :=
  (dats m 0 c).arrAt_eq_of_cover 1 (cell m c) (flushed_cell m c) fun i =>
    ⟨last, (flush0_1 last).mpr rfl, by
      show i ∈ ((View.whole main_v0).slice (win0_1.rect last)).set
      rw [View.set_slice_whole, Rect.mem_set_unit]
      intro a
      have h0 : (i 0 : Nat) < 1 := (i 0).isLt
      have h1 : (i 1 : Nat) < 1 := (i 1).isLt
      match a with
      | ⟨0, _⟩ => show win0_1.index last 0 * win0_1.size 0 ≤ (i 0 : Nat) ∧ (i 0 : Nat) < win0_1.index last 0 * win0_1.size 0 + win0_1.xsize (grid0.coords last) 0
                  rw [show win0_1.index last 0 * win0_1.size 0 = 0 from by decide +kernel, show win0_1.xsize (grid0.coords last) 0 = 1 from by decide +kernel]; omega
      | ⟨1, _⟩ => show win0_1.index last 1 * win0_1.size 1 ≤ (i 1 : Nat) ∧ (i 1 : Nat) < win0_1.index last 1 * win0_1.size 1 + win0_1.xsize (grid0.coords last) 1
                  rw [show win0_1.index last 1 * win0_1.size 1 = 0 from by decide +kernel, show win0_1.xsize (grid0.coords last) 1 = 1 from by decide +kernel]; omega⟩

/-- The program's result. -/
def result (c : Dev nD) : Buf (Elt F) ((c : Thread nD τ).loc main_v1) := shapeCast S_ (outAt m c last) shapeCasts_S1x1_S_

theorem after_main (c : Dev nD) : Pipeline.afterTail₀ cfgs (dats m) 0 (V0 m) [hostOps1] c main_v1 = result m c := by
  unfold Pipeline.afterTail₀ hostOps1
  simp only [List.flatten_cons, List.flatten_nil, List.append_nil]
  after_results
  have h := Pipeline.Dat.withArrays_arrAt (dats m 0 c) (Pipeline.SharedIn.of_injective launch0.win.arr_inj) (V0 m c) (A_eq m c) 1
  have h' : Pipeline.withArrays (cfgs 0).spec c (V0 m c) (fun w => (dats m 0 c).arrAt w cfg0.N) (Proc.devRef .tc main_v0) = cell m c :=
    h.trans (final_cell m c)
  rw [h']
  rfl

/-- The run: the result, and the argument unchanged. -/
theorem run_value : θ_run defs (onTc (τ := τ) (main (F := F))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)) :=
  (θ_run defs _ _).mono (fun _ h c => ⟨((h.1 c).2 main_v1 (by decide +kernel)).trans (after_main m c),
    ((h.1 c).1 0).trans (((dats m 0 c).arrAt_in 0 rfl _).trans ((A_eq m c 0).trans (V_main_arg0 m c)))⟩) (run_all m ρ)

end Cert.KernelIdeal.Own

end
-- ==== Proof.KernelValue.lean ====
/- The kernel's result on real numbers is the loss. -/
module

public import proofs.«01_k».proof.Proof.Finish
public import proofs.«01_k».proof.Proof.ValueIdeal

@[expose] public section

noncomputable section

namespace Cert.KernelIdeal.Own

open Idealize.ShloMosaic hiding ix0 ix1 ix2 ix3 ix4 ix5
open Idealize.ShloMosaic.ValueIdx Idealize.ShloMosaic.TcCoe
open Idealize.SL Idealize.SL.Sem
open Cert.KernelIdeal Cert.KernelIdeal.Gen
open scoped BigOperators

variable (m : (ℓ : Loc nD τ sig) → Buf (Elt Ideal) ℓ) (c : Dev nD)

theorem index_in (t : Fin cfg0.N) : win0_0.index t 0 = t.val / 2 ∧ win0_0.index t 1 = 0 ∧ win0_0.index t 2 = t.val % 2 ∧ win0_0.index t 3 = 0 := by
  revert t; decide +kernel

/-- A block of logits is half an image. -/
theorem blk_at (t : Fin cfg0.N) (ci : Fin 19) (h : Fin 256) (w : Fin 512) (b : Fin 8) (h' : Fin 512) (hb : b.val = t.val / 2)
    (hh : h'.val = t.val % 2 * 256 + h.val) :
    blk m c t (ix4 (0 : Fin 1) ci h w) = m ((c : Thread nD τ).loc main_arg0) (ix4 b ci h' w) := by
  have hi := index_in t
  have hV : V m c main_arg0 = m ((c : Thread nD τ).loc main_arg0) := V_main_arg0 m c
  rw [← hV]
  show V m c main_arg0 ((win0_0.rect t).emb (ix4 (0 : Fin 1) ci h w)) = _
  refine congrArg (V m c main_arg0) ?_
  funext a; apply Fin.ext
  rw [Rect.emb_apply]
  match a with
  | ⟨0, _⟩ => show win0_0.index t 0 * 1 + 1 * 0 = b.val; omega
  | ⟨1, _⟩ => show win0_0.index t 1 * 19 + 1 * ci.val = ci.val; omega
  | ⟨2, _⟩ => show win0_0.index t 2 * 256 + 1 * h.val = h'.val; omega
  | ⟨3, _⟩ => show win0_0.index t 3 * 512 + 1 * w.val = w.val; omega

theorem LG_eq : (LG : Ideal .f32) = Msiw.lgR := rfl

/-! ## The pixels as the grid meets them -/

/-- Where the pixel of chunk row `u`, lane `v`, point `t`, chunk `r` lies in the images. -/
def place : Fin 8 × Fin 512 × Fin 16 × Fin 32 ≃ Fin 8 × Fin 512 × Fin 512 where
  toFun p := (⟨p.2.2.1.val / 2, by omega⟩, ⟨p.2.2.1.val % 2 * 256 + (8 * p.2.2.2.val + p.1.val), by omega⟩, p.2.1)
  invFun q := (⟨q.2.1.val % 8, by omega⟩, q.2.2, ⟨2 * q.1.val + q.2.1.val / 256, by omega⟩, ⟨q.2.1.val % 256 / 8, by omega⟩)
  left_inv p := by
    obtain ⟨u, v, t, r⟩ := p
    refine Prod.ext (Fin.ext ?_) (Prod.ext rfl (Prod.ext (Fin.ext ?_) (Fin.ext ?_)))
    · show (t.val % 2 * 256 + (8 * r.val + u.val)) % 8 = u.val; omega
    · show 2 * (t.val / 2) + (t.val % 2 * 256 + (8 * r.val + u.val)) / 256 = t.val; omega
    · show (t.val % 2 * 256 + (8 * r.val + u.val)) % 256 / 8 = r.val; omega
  right_inv q := by
    obtain ⟨b, h, w⟩ := q
    refine Prod.ext (Fin.ext ?_) (Prod.ext (Fin.ext ?_) rfl)
    · show (2 * b.val + h.val / 256) / 2 = b.val; omega
    · show (2 * b.val + h.val / 256) % 2 * 256 + (8 * (h.val % 256 / 8) + h.val % 8) = h.val; omega

variable (L : Fin 8 × Fin 512 × Fin 512 → Msiw.Px)

/-- The logits of the pixel of row `h` of the block of point `t`. -/
def atPoint (t h : Nat) (v : Fin 512) : Msiw.Px :=
  if ht : t < 16 ∧ h < 256 then L (⟨t / 2, by omega⟩, ⟨t % 2 * 256 + h, by omega⟩, v) else fun _ => 0

/-- A sum over the lanes, points and chunks is a sum over the pixels. -/
theorem sum_lanes (φ : Msiw.Px → ℝ) :
    ∑ u : Fin 8, ∑ v : Fin 512, ∑ t ∈ Finset.range 16, ∑ r ∈ Finset.range 32, φ (atPoint L t (8 * r + u) v) = ∑ p, φ (L p) := by
  rw [← place.sum_comp fun p => φ (L p)]
  simp only [Fintype.sum_prod_type]
  refine Finset.sum_congr rfl fun u _ => Finset.sum_congr rfl fun v _ => ?_
  rw [Finset.sum_range]
  refine Finset.sum_congr rfl fun t _ => ?_
  rw [Finset.sum_range]
  refine Finset.sum_congr rfl fun r _ => ?_
  have : t.val < 16 ∧ 8 * r.val + u.val < 256 := ⟨t.isLt, by omega⟩
  rw [atPoint, dif_pos this]
  rfl

section
variable (hL : ∀ (b : Fin 8) (ci : Fin 19) (h w : Fin 512),
  m ((c : Thread nD τ).loc main_arg0) (ix4 b ci h w) = ((L (b, h, w) ci.val : ℝ) : EReal))
include hL

theorem blk_real (t : Fin cfg0.N) (ci : Fin 19) (h : Fin 256) (w : Fin 512) :
    blk m c t (ix4 (0 : Fin 1) ci h w) = ((atPoint L t.val h.val w ci.val : ℝ) : EReal) := by
  have ht : t.val < 16 := Nat.lt_of_lt_of_eq t.isLt N_0
  rw [blk_at m c t ci h w ⟨t.val / 2, by omega⟩ ⟨t.val % 2 * 256 + h.val, by omega⟩ rfl rfl, hL, atPoint, dif_pos ⟨ht, h.isLt⟩]

theorem accC_at (k : Fin 10) (u : Fin 8) (v : Fin 512) (n : Nat) (h : n ≤ cfg0.N) :
    accC m c n h (ix3 k u v)
      = ((∑ t ∈ Finset.range n, ∑ r ∈ Finset.range 32, Msiw.hitW (Msiw.best (atPoint L t (8 * r + u) v)) k : ℝ) : EReal) := by
  induction n with
  | zero => exact Msiw.bits_zero
  | succ n ih =>
    refine (Msiw.blockC_at (blk m c ⟨n, h⟩) (atPoint L n) (blk_real m c L hL ⟨n, h⟩) _ k u v 32 le_rfl).trans ?_
    rw [ih (by omega), Finset.sum_range_succ _ n, EReal.coe_add]

theorem accS_at (k : Fin 20) (u : Fin 8) (v : Fin 512) (n : Nat) (h : n ≤ cfg0.N) :
    accS m c n h (ix3 k u v)
      = ((∑ t ∈ Finset.range n, ∑ r ∈ Finset.range 32, Msiw.sumW (atPoint L t (8 * r + u) v) k : ℝ) : EReal) := by
  induction n with
  | zero => exact Msiw.bits_zero
  | succ n ih =>
    refine (Msiw.blockS_at (blk m c ⟨n, h⟩) (atPoint L n) (blk_real m c L hL ⟨n, h⟩) _ k u v 32 le_rfl).trans ?_
    rw [ih (by omega), Finset.sum_range_succ _ n, EReal.coe_add]

/-- How many pixels of a lane have class `a`. -/
def laneHits (a : Nat) (u : Fin 8) (v : Fin 512) : Nat :=
  ∑ t ∈ Finset.range 16, ∑ r ∈ Finset.range 32, if Msiw.best (atPoint L t (8 * r + u) v) = a then 1 else 0

omit hL in
theorem laneHits_lt (a : Nat) (u : Fin 8) (v : Fin 512) : laneHits L a u v < 4096 := by
  have h1 : laneHits L a u v ≤ ∑ _t ∈ Finset.range 16, ∑ _r ∈ Finset.range 32, 1 :=
    Finset.sum_le_sum fun t _ => Finset.sum_le_sum fun r _ => by split <;> omega
  exact lt_of_le_of_lt h1 (by simp)

omit hL in
theorem sum_laneHits (a : Nat) : ∑ u, ∑ v, (laneHits L a u v : ℝ) = Msiw.count L a := by
  unfold Msiw.count
  rw [← sum_lanes L fun f => if Msiw.best f = a then (1 : ℝ) else 0]
  refine Finset.sum_congr rfl fun u _ => Finset.sum_congr rfl fun v _ => ?_
  unfold laneHits
  push_cast
  rfl

theorem accC_packed (h : 16 ≤ cfg0.N) (k : Fin 10) (u : Fin 8) (v : Fin 512) : accC m c 16 h (ix3 k u v)
    = ((4096 * (laneHits L (2 * k) u v : ℝ) + (laneHits L (2 * k + 1) u v : ℝ) : ℝ) : EReal) := by
  rw [accC_at m c L hL]
  congr 1
  unfold laneHits
  push_cast
  simp only [Msiw.hitW, Finset.mul_sum, Finset.sum_add_distrib, mul_ite, mul_one, mul_zero]

/-- The kernel's result is the loss. -/
theorem result_eq : result m c = fun _ => ((Msiw.loss L : ℝ) : EReal) := by
  have h16 : cfg0.N = 16 := N_0
  funext j
  unfold result
  refine (shapeCast_apply _ _ j (ix2 (0 : Fin 1) (0 : Fin 1)) (by rw [Shape.rowMajor_val_two]; exact (Nat.lt_one_iff.mp ((S_.rowMajor j).isLt)).symm)).trans ?_
  refine (Msiw.outV_at (accC m c 16 h16.ge) (fun k u v => laneHits L (2 * k) u v) (fun k u v => laneHits L (2 * k + 1) u v)
    (fun k u v => laneHits_lt L _ u v) (accC_packed m c L hL h16.ge) (accS m c 16 h16.ge)
    (fun k u v => ∑ t ∈ Finset.range 16, ∑ r ∈ Finset.range 32, Msiw.sumW (atPoint L t (8 * r + u) v) k)
    (fun k u v => accS_at m c L hL k u v 16 h16.ge)).trans ?_
  congr 1
  unfold Msiw.loss
  have hm (k : Nat) : ∑ u : Fin 8, ∑ v : Fin 512, ∑ t ∈ Finset.range 16, ∑ r ∈ Finset.range 32, Msiw.sumW (atPoint L t (8 * r + u) v) k
      = Msiw.mass L (Msiw.slabCls k) := sum_lanes L fun f => Msiw.sumW f k
  simp only [hm, sum_laneHits]
  have he (k : Fin 10) : Msiw.slabCls k.val = 2 * k.val := if_pos k.isLt
  have ho (k : Fin 9) : Msiw.slabCls (10 + k.val) = 2 * k.val + 1 := by
    unfold Msiw.slabCls
    rw [if_neg (by omega), Nat.add_sub_cancel_left]
  simp only [he, ho]
  rw [Fin.sum_univ_eq_sum_range (fun k => Msiw.mass L (2 * k) / Msiw.weight (Msiw.count L (2 * k))) 10,
    Fin.sum_univ_eq_sum_range (fun k => Msiw.mass L (2 * k + 1) / Msiw.weight (Msiw.count L (2 * k + 1))) 9]
  simp only [Finset.sum_range_succ, Finset.sum_range_zero]
  ring

end

end Cert.KernelIdeal.Own

end
-- ==== Proof.RefPixel.lean ====
/- One pixel of the reference on real numbers: its largest logit, its softmax and its predicted class. -/
module

public import proofs.«01_k».proof.Proof.Pixel
public import proofs.«01_k».proof.Proof.RefRun
public import Idealize.ShloMosaic.Lib.ValueIdxRank1
public import Idealize.ShloMosaic.Lib.Pointwise.Reduce
public import Idealize.ShloMosaic.Lib.Pipeline.Value
public import Idealize.ShloMosaic.Lib.StableHlo.Predicate

@[expose] public section

noncomputable section

namespace Cert.ReferenceIdeal.Own

open Idealize.ShloMosaic hiding ix0 ix1 ix2 ix3 ix4 ix5
open Idealize.ShloMosaic.ValueIdx Idealize.ShloMosaic.TcCoe Idealize.ShloMosaic.StableHlo
open Cert.ReferenceIdeal Cert.ReferenceIdeal.Gen
open Cert.Msiw (Px best best_spec best_lt best_eq IsBest sumExp sumExp_pos)
open scoped BigOperators

/-- A fold of maxima is the least upper bound. -/
theorem fold_max {ι : Type} (s : Finset ι) (g : ι → Ideal .f32) :
    s.fold FloatOps.maximumf (⊥ : EReal) g = s.sup (α := EReal) g := by
  classical
  induction s using Finset.induction_on with
  | empty => rw [Finset.fold_empty]; exact Finset.sup_empty.symm
  | insert a s ha ih => rw [Finset.fold_insert ha, ih, Finset.sup_insert]; exact congrFun (congrFun Ideal.maximumf_eq_max _) _

/-- A maximum with the least value. -/
theorem max_bot_at (u v : Vec Ideal S8x512x512 .f32) (j : S8x512x512.Idx) {r : Elt Ideal .f32} (hu : u j = (⊥ : EReal)) (hv : v j = r) : maximumf (F := Ideal) (φ := .f32) u v j = r := by
  have e : FloatOps.maximumf (F := Ideal) (φ := .f32) (u j) (v j) = r := by
    rw [hu, hv]; exact max_eq_right bot_le
  exact e

/-- The largest of the logits, as an upper bound that is reached. -/
theorem sup_logits (f : Px) : (Finset.univ : Finset (Fin 19)).sup (fun k => ((f k.val : ℝ) : EReal)) = ((f (best f) : ℝ) : EReal) := by
  refine le_antisymm (Finset.sup_le fun k _ => EReal.coe_le_coe_iff.mpr ((best_spec f).2.1 k.val k.isLt)) ?_
  exact Finset.le_sup (f := fun k : Fin 19 => ((f k.val : ℝ) : EReal)) (Finset.mem_univ (⟨best f, best_lt f⟩ : Fin 19))

/-- What is spread over the classes, at a pixel. -/
theorem spread_at (v : Vec Ideal S8x512x512 .f32) (b : Fin 8) (ci : Fin 19) (h w : Fin 512) : spread v (ix4 b ci h w) = v (ix3 b h w) := by
  refine (broadcastInDim_apply _ _ _ _ (ix4 b (0 : Fin 1) h w) fun a => ?_).trans (broadcastInDim_apply _ _ _ _ (ix3 b h w) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-! ## The predicted class -/

/-- A pair of a value and a position goes before another: it is larger, or as large and not later. -/
def Before (a b : Ideal .f32 × BitVec 32) : Prop := (b.1 : EReal) < a.1 ∨ ((a.1 : EReal) = b.1 ∧ a.2.toInt ≤ b.2.toInt)

theorem Before.refl (a : Ideal .f32 × BitVec 32) : Before a a := Or.inr ⟨rfl, le_rfl⟩

theorem Before.trans {a b c : Ideal .f32 × BitVec 32} (h : Before a b) (k : Before b c) : Before a c := by
  rcases h with h | ⟨h, h'⟩ <;> rcases k with k | ⟨k, k'⟩
  · exact Or.inl (lt_trans k h)
  · exact Or.inl (k ▸ h)
  · exact Or.inl (h ▸ k)
  · exact Or.inr ⟨h.trans k, h'.trans k'⟩

/-- The reducer returns one of its arguments, and it goes before both. -/
theorem reducer_spec (a b : Ideal .f32 × BitVec 32) :
    (reducer_argmax_f32_i32 a b = a ∨ reducer_argmax_f32_i32 a b = b)
      ∧ Before (reducer_argmax_f32_i32 a b) a ∧ Before (reducer_argmax_f32_i32 a b) b := by
  obtain ⟨x, i⟩ := a
  obtain ⟨y, j⟩ := b
  by_cases h : (y : EReal) < x
  · have e : reducer_argmax_f32_i32 (F := Ideal) (x, i) (y, j) = (x, i) := by
      have e4 : FloatOps.cmpf (F := Ideal) (φ := .f32) .ogt x y = 1#1 := by simp [FloatOps.cmpf, Ideal.cmp, h]
      have hor (c : BitVec 1) : IntOp.ori 1#1 c = 1#1 := by revert c; decide
      simp [reducer_argmax_f32_i32, e4, hor, Scalar.select]
    rw [e]; exact ⟨Or.inl rfl, Before.refl _, Or.inl h⟩
  · by_cases h2 : (x : EReal) = y
    · subst h2
      by_cases h3 : i.slt j = true
      · have e : reducer_argmax_f32_i32 (F := Ideal) (x, i) (x, j) = (x, i) := by
          simp [reducer_argmax_f32_i32, FloatOps.cmpf, Ideal.cmp, IntOp.ori, IntOp.andi, IntOp.cmpi, Scalar.select, h3]
        rw [e]; refine ⟨Or.inl rfl, Before.refl _, Or.inr ⟨rfl, ?_⟩⟩
        exact le_of_lt (BitVec.slt_iff_toInt_lt.mp h3)
      · have e : reducer_argmax_f32_i32 (F := Ideal) (x, i) (x, j) = (x, j) := by
          simp [reducer_argmax_f32_i32, FloatOps.cmpf, Ideal.cmp, IntOp.ori, IntOp.andi, IntOp.cmpi, Scalar.select, h3]
        rw [e]; refine ⟨Or.inr rfl, Or.inr ⟨rfl, ?_⟩, Before.refl _⟩
        exact not_lt.mp fun h4 => h3 (BitVec.slt_iff_toInt_lt.mpr h4)
    · have e : reducer_argmax_f32_i32 (F := Ideal) (x, i) (y, j) = (y, j) := by
        simp [reducer_argmax_f32_i32, FloatOps.cmpf, Ideal.cmp, IntOp.ori, IntOp.andi, IntOp.cmpi, Scalar.select, h, h2]
      rw [e]; exact ⟨Or.inr rfl, Or.inl (lt_of_le_of_ne (not_lt.mp h) h2), Before.refl _⟩

/-- The reducer folded over a list returns one of its pairs, or the first value, and it goes before all of them. -/
theorem fold_reducer (l : List (Ideal .f32 × BitVec 32)) (a : Ideal .f32 × BitVec 32) :
    (l.foldl reducer_argmax_f32_i32 a = a ∨ l.foldl reducer_argmax_f32_i32 a ∈ l)
      ∧ Before (l.foldl reducer_argmax_f32_i32 a) a ∧ ∀ b ∈ l, Before (l.foldl reducer_argmax_f32_i32 a) b := by
  induction l generalizing a with
  | nil => exact ⟨Or.inl rfl, Before.refl _, fun b hb => absurd hb List.not_mem_nil⟩
  | cons b l ih =>
    have ⟨h1, h2, h3⟩ := ih (reducer_argmax_f32_i32 a b)
    have ⟨k1, k2, k3⟩ := reducer_spec a b
    rw [List.foldl_cons]
    refine ⟨?_, h2.trans k2, fun c hc => ?_⟩
    · rcases h1 with h1 | h1
      · rcases k1 with k1 | k1
        · exact Or.inl (h1.trans k1)
        · exact Or.inr (List.mem_cons.mpr (Or.inl (h1.trans k1)))
      · exact Or.inr (List.mem_cons_of_mem _ h1)
    · rcases List.mem_cons.mp hc with rfl | hc
      · exact h2.trans k3
      · exact h3 c hc

/-- The pairs that a reduction folds at an index are those of the indices that drop to it. -/
theorem mem_fiber {α β : Type} {s t : Shape} {axes : List (Fin s.rank)} (x : s.Idx → α) (y : s.Idx → β) (h : s.ReducesTo axes t) (j : t.Idx) (p : α × β) :
    p ∈ Host.argReduceFiber x y h j ↔ ∃ i, h.drop i = j ∧ p = (x i, y i) := by
  simp only [Host.argReduceFiber, List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- The softmax. -/
def softmax (f : Px) (c : Nat) : ℝ := Real.exp (f c) / sumExp f

theorem softmax_lt (f : Px) (c d : Nat) : softmax f c < softmax f d ↔ f c < f d := by
  unfold softmax
  rw [div_lt_div_iff_of_pos_right (sumExp_pos f), Real.exp_lt_exp]

/-- The position of the largest softmax, the first one if several are as large. -/
theorem argmax_class {s t u : Shape} {axes : List (Fin s.rank)} (f : Px) (x : FVec Ideal s .f32) (y : s.Idx → BitVec 32) (ix : u.Idx → Ideal .f32)
    (iy : u.Idx → BitVec 32) (h : s.ReducesTo axes t) (hu : 0 < u.numel) (j : t.Idx) (g : Fin 19 → s.Idx) (hg : ∀ i, h.drop i = j ↔ ∃ k, g k = i)
    (hx : ∀ k, x (g k) = ((softmax f k.val : ℝ) : EReal)) (hy : ∀ k, y (g k) = BitVec.ofNat 32 k.val) (hi : ix (Shape.Idx.first hu) = (⊥ : EReal)) :
    (Host.argReduce reducer_argmax_f32_i32 x y ix iy h hu j).2 = BitVec.ofNat 32 (best f) := by
  rw [Ideal.argReduce_eq_reduce2, Host.reduce2_eq_foldl_fiber, hi]
  have hmem (p : Ideal .f32 × BitVec 32) : p ∈ Host.argReduceFiber x y h j ↔ ∃ k : Fin 19, p = (((softmax f k.val : ℝ) : EReal), BitVec.ofNat 32 k.val) := by
    rw [mem_fiber]
    constructor
    · rintro ⟨n, hn, rfl⟩
      obtain ⟨k, rfl⟩ := (hg n).mp hn
      exact ⟨k, Prod.ext (hx k) (hy k)⟩
    · rintro ⟨k, rfl⟩
      exact ⟨g k, (hg _).mpr ⟨k, rfl⟩, Prod.ext (hx k).symm (hy k).symm⟩
  obtain ⟨h1, -, h3⟩ := fold_reducer (Host.argReduceFiber x y h j) ((⊥ : EReal), iy (Shape.Idx.first hu))
  generalize (Host.argReduceFiber x y h j).foldl (reducer_argmax_f32_i32 (F := Ideal)) ((⊥ : EReal), iy (Shape.Idx.first hu)) = r at h1 h3 ⊢
  have hr : r ∈ Host.argReduceFiber x y h j := by
    refine h1.resolve_left fun e => ?_
    rcases h3 _ ((hmem _).mpr ⟨0, rfl⟩) with h | ⟨h, -⟩
    · rw [e] at h; exact not_lt_bot h
    · rw [e] at h; exact EReal.coe_ne_bot _ h.symm
  obtain ⟨k, hk⟩ := (hmem r).mp hr
  have hk19 := k.isLt
  have hb (d : Nat) (hd : d < 19) : f d < f k.val ∨ (f d = f k.val ∧ k.val ≤ d) := by
    rcases h3 _ ((hmem _).mpr ⟨⟨d, hd⟩, rfl⟩) with h | ⟨h, h'⟩
    · rw [hk] at h
      exact Or.inl ((softmax_lt _ _ _).mp (EReal.coe_lt_coe_iff.mp h))
    · rw [hk] at h h'
      have h := EReal.coe_eq_coe_iff.mp h
      simp only [Predicate.toInt_ofNat_small k.val (by omega), Predicate.toInt_ofNat_small d (by omega)] at h'
      refine Or.inr ⟨le_antisymm (not_lt.mp fun q => ?_) (not_lt.mp fun q => ?_), by omega⟩
      · exact ((softmax_lt _ _ _).mpr q).ne h
      · exact ((softmax_lt _ _ _).mpr q).ne h.symm
  have hbest : best f = k.val := by
    refine best_eq ⟨k.isLt, fun d hd => ?_, fun d hd => ?_⟩
    · rcases hb d hd with h | h
      · exact h.le
      · exact h.1.le
    · rcases hb d (by omega) with h | h
      · exact h
      · omega
  rw [hk, hbest]

section
variable (X : Vec Ideal S8x19x512x512 .f32) (L : Fin 8 × Fin 512 × Fin 512 → Px)
  (hX : ∀ b ci h w, X (ix4 b ci h w) = ((L (b, h, w) ci.val : ℝ) : EReal))
include hX

theorem topV_at (b : Fin 8) (h w : Fin 512) : topV X (ix3 b h w) = ((L (b, h, w) (best (L (b, h, w))) : ℝ) : EReal) := by
  have e : Host.reduce (FloatOps.maximumf (F := Ideal) (φ := .f32)) X (constant S_ .f32 0xFF800000#32) reducesTo_S8x19x512x512_S8x512x512_d1 h_S_ (ix3 b h w)
      = ((L (b, h, w) (best (L (b, h, w))) : ℝ) : EReal) := by
    rw [Host.reduce_eq_fold, Shape.ReducesTo.fold_fiber_r4_a1]
    have e1 : (constant (F := Ideal) S_ .f32 0xFF800000#32) (Shape.Idx.first h_S_) = (⊥ : EReal) := Msiw.bits_bot
    rw [e1, fold_max, ← sup_logits]
    exact Finset.sup_congr rfl fun k _ => hX b k h w
  unfold topV
  exact max_bot_at _ _ _ Msiw.bits_bot e

theorem expV_at (b : Fin 8) (ci : Fin 19) (h w : Fin 512) :
    expV X (ix4 b ci h w) = ((Real.exp (L (b, h, w) ci.val - L (b, h, w) (best (L (b, h, w)))) : ℝ) : EReal) := by
  show Ideal.exp (X (ix4 b ci h w) - spread (topV X) (ix4 b ci h w) : EReal) = _
  rw [spread_at, topV_at X L hX, hX, ← EReal.coe_sub, Ideal.exp_coe]

theorem probV_at (b : Fin 8) (ci : Fin 19) (h w : Fin 512) : probV X (ix4 b ci h w) = ((softmax (L (b, h, w)) ci.val : ℝ) : EReal) := by
  have hs : Host.reduceAdd (expV X) (constant S_ .f32 0x00000000#32) reducesTo_S8x19x512x512_S8x512x512_d1 h_S_ (ix3 b h w)
      = ((sumExp (L (b, h, w)) * Real.exp (- L (b, h, w) (best (L (b, h, w)))) : ℝ) : EReal) := by
    refine (Ideal.hostReduceAdd_r4_a1 _ _ _ _).trans ?_
    have e1 : (constant (F := Ideal) S_ .f32 0x00000000#32) (Shape.Idx.first h_S_) = ((0 : ℝ) : EReal) := Msiw.bits_zero
    rw [e1, EReal.coe_zero, zero_add]
    refine (Finset.sum_congr rfl fun k _ => expV_at X L hX b k h w).trans ?_
    rw [← Msiw.coe_sum]
    refine congrArg _ ?_
    rw [sumExp, Finset.sum_mul, Finset.sum_range]
    refine Finset.sum_congr rfl fun k _ => ?_
    rw [← Real.exp_add, sub_eq_add_neg]
  have hp : sumExp (L (b, h, w)) * Real.exp (- L (b, h, w) (best (L (b, h, w)))) ≠ 0 := (mul_pos (sumExp_pos _) (Real.exp_pos _)).ne'
  have hd : probV X (ix4 b ci h w) = Ideal.div (expV X (ix4 b ci h w))
      (spread (Host.reduceAdd (expV X) (constant S_ .f32 0x00000000#32) reducesTo_S8x19x512x512_S8x512x512_d1 h_S_) (ix4 b ci h w)) := rfl
  rw [hd, spread_at, hs, expV_at X L hX, Msiw.coe_div hp, sub_eq_add_neg, Real.exp_add, mul_div_mul_right _ _ (Real.exp_pos _).ne']
  rfl

omit hX in
theorem predV_eq : predV X = fun j => (Host.argReduce (reducer_argmax_f32_i32 (F := Ideal)) (probV X) (iotaInDim S8x19x512x512 32 1)
    (constant S_ .f32 0xFF800000#32) (constantI S_ 32 0#32) reducesTo_S8x19x512x512_S8x512x512_d1 h_S_ j).2 := rfl

/-- The reference predicts the class of the pixel. -/
theorem predV_at (b : Fin 8) (h w : Fin 512) : predV X (ix3 b h w) = BitVec.ofNat 32 (best (L (b, h, w))) := by
  rw [predV_eq]
  exact argmax_class (L (b, h, w)) _ _ _ _ _ _ _ (fun k : Fin 19 => ix4 b k h w) (fun i => Shape.ReducesTo.fiber_r4_a1 _ _ i)
    (fun k => probV_at X L hX b k h w) (fun _ => rfl) Msiw.bits_bot

end

end Cert.ReferenceIdeal.Own

end
-- ==== Proof.RefCount.lean ====
/- The reference's histogram and its look-up: a scatter that adds one per index, and a gather by one index. -/
module

public import proofs.«01_k».proof.Proof.RefPixel
public import Idealize.ShloMosaic.Lib.Routing.OpsPair
public import Idealize.ShloMosaic.Lib.Routing.Ops

@[expose] public section

noncomputable section

namespace Cert.ReferenceIdeal.Own

open Idealize.ShloMosaic hiding ix0 ix1 ix2 ix3 ix4 ix5
open Idealize.ShloMosaic.ValueIdx Idealize.ShloMosaic.TcCoe Idealize.ShloMosaic.StableHlo
open Cert.ReferenceIdeal Cert.ReferenceIdeal.Gen
open scoped BigOperators

/-- Adding one at each hit of a list adds the number of the hits. -/
theorem fold_hits {ι : Type} (hit : ι → Prop) [DecidablePred hit] (one : ι → BitVec 32) (h1 : ∀ i, one i = 1#32) (l : List ι) (k : Nat) :
    l.foldl (fun a i => if hit i then IntOp.addi a (one i) else a) (BitVec.ofNat 32 k)
      = BitVec.ofNat 32 (k + (l.map fun i => if hit i then 1 else 0).sum) := by
  induction l generalizing k with
  | nil => simp
  | cons i l ih =>
    have e : (if hit i then IntOp.addi (BitVec.ofNat 32 k) (one i) else BitVec.ofNat 32 k) = BitVec.ofNat 32 (k + if hit i then 1 else 0) := by
      by_cases h : hit i
      · rw [if_pos h, if_pos h, h1]; exact (BitVec.ofNat_add k 1).symm
      · rw [if_neg h, if_neg h, Nat.add_zero]
    rw [List.foldl_cons, e, ih, List.map_cons, List.sum_cons, Nat.add_assoc]

/-- A scatter that adds one at each index, read at an entry: the number of the updates that land there. -/
theorem scatter_hits {M N : Nat} (d : ScatterDims ⟨1, ![M]⟩ ⟨2, ![N, 1]⟩ ⟨1, ![N]⟩) (x0 : IVec ⟨1, ![M]⟩ 32) (idx : IVec ⟨2, ![N, 1]⟩ 32)
    (upd : IVec ⟨1, ![N]⟩ 32) (c : Fin M) (hit : Fin N → Prop) [DecidablePred hit] (hh : ∀ i, d.resultIdx? (ix1 i) idx = some (ix1 c) ↔ hit i)
    (h0 : x0 (ix1 c) = 0#32) (h1 : ∀ i, upd i = 1#32) :
    Host.scatter d IntOp.addi x0 idx upd (ix1 c) = BitVec.ofNat 32 (∑ i : Fin N, if hit i then 1 else 0) := by
  rw [Routing.scatter_at, h0]
  have e : (fun (a : BitVec 32) (n : Fin (⟨1, ![N]⟩ : Shape).numel) =>
      if d.resultIdx? ((⟨1, ![N]⟩ : Shape).rowMajor.symm n) idx = some (ix1 c) then IntOp.addi a (upd ((⟨1, ![N]⟩ : Shape).rowMajor.symm n)) else a)
      = fun a n => if hit (n.cast (Routing.numel1 N)) then IntOp.addi a (upd ((⟨1, ![N]⟩ : Shape).rowMajor.symm n)) else a := by
    funext a n
    have hs : (⟨1, ![N]⟩ : Shape).rowMajor.symm n = ix1 (n.cast (Routing.numel1 N)) := Routing.symm1 n
    have := hh (n.cast (Routing.numel1 N))
    rw [← hs] at this
    simp only [this]
  rw [e]
  refine (fold_hits (fun n : Fin (⟨1, ![N]⟩ : Shape).numel => hit (n.cast (Routing.numel1 N))) _ (fun _ => h1 _) _ 0).trans ?_
  rw [Nat.zero_add, ← Fin.sum_univ_def]
  refine congrArg _ ?_
  exact Fintype.sum_equiv (finCongr (Routing.numel1 N)) _ _ fun _ => rfl

/-- Where an update of the histogram lands. -/
theorem lands_at (idx : IVec S2097152x1 32) (i : Fin 2097152) (c : Fin 19) (b : Nat) (hb : b < 19) (hi : idx (ix2 i (0 : Fin 1)) = BitVec.ofNat 32 b) :
    scatter_S19_S2097152x1_S2097152_n_0_0_1.resultIdx? (ix1 i) idx = some (ix1 c) ↔ b = c.val := by
  rw [Routing.resultIdx?_ix1]
  have hw : scatter_S19_S2097152x1_S2097152_n_0_0_1.window (ix1 i) 0 = 0 := by
    unfold ScatterDims.window
    exact dif_neg fun h => (of_decide_eq_true (List.mem_filter.1 h).2) (List.mem_singleton.2 rfl)
  have hs : scatter_S19_S2097152x1_S2097152_n_0_0_1.start (ix1 i) idx 0 = (idx (ix2 i (0 : Fin 1))).toInt := by
    unfold ScatterDims.start
    rw [dif_pos (show (0 : Fin 1) ∈ scatter_S19_S2097152x1_S2097152_n_0_0_1.scatterDimsToOperandDims from List.mem_singleton.2 rfl)]
    refine congrArg (fun k => (idx k).toInt) (funext fun a => Fin.ext ?_)
    match a with
    | ⟨0, _⟩ => rfl
    | ⟨1, _⟩ => rfl
  rw [hw, hs, hi, Predicate.toInt_ofNat_small b (by omega)]
  omega

/-- The look-up of a class. -/
theorem lookup_at (v : Vec Ideal S19 .f32) (idx : IVec S8x1x512x512x1 32) (b : Fin 8) (h w : Fin 512) (k : Nat) (hk : k < 19)
    (hi : idx (ix5 b (0 : Fin 1) h w (0 : Fin 1)) = BitVec.ofNat 32 k) :
    Host.gather gather_S19_S8x1x512x512x1_S8x1x512x512_n_0_n_n_0_4_1 v idx (ix4 b (0 : Fin 1) h w) = v (ix1 (⟨k, hk⟩ : Fin 19)) := by
  unfold Host.gather
  refine congrArg v (funext fun a => Fin.ext ?_)
  obtain rfl : a = 0 := Subsingleton.elim _ _
  show gather_S19_S8x1x512x512x1_S8x1x512x512_n_0_n_n_0_4_1.start (ix4 b (0 : Fin 1) h w) idx 0
    + gather_S19_S8x1x512x512x1_S8x1x512x512_n_0_n_n_0_4_1.batchCoord (ix4 b (0 : Fin 1) h w) 0
    + gather_S19_S8x1x512x512x1_S8x1x512x512_n_0_n_n_0_4_1.offCoord (ix4 b (0 : Fin 1) h w) 0 = k
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ gather_S19_S8x1x512x512x1_S8x1x512x512_n_0_n_n_0_4_1.startIndexMap from List.mem_singleton.mpr rfl)]
  have hsi : gather_S19_S8x1x512x512x1_S8x1x512x512_n_0_n_n_0_4_1.siIdx (ix4 b (0 : Fin 1) h w)
      ⟨List.idxOf (0 : Fin 1) gather_S19_S8x1x512x512x1_S8x1x512x512_n_0_n_n_0_4_1.startIndexMap,
        List.idxOf_lt_length_iff.2 (List.mem_singleton.mpr rfl)⟩ = ix5 b (0 : Fin 1) h w (0 : Fin 1) := by
    funext b'; refine Fin.ext ?_
    match b' with
    | ⟨0, _⟩ => rfl
    | ⟨1, _⟩ => rfl
    | ⟨2, _⟩ => rfl
    | ⟨3, _⟩ => rfl
    | ⟨4, _⟩ => rfl
  rw [hsi, hi, Predicate.toInt_ofNat_small k (by omega)]
  show min ((k : Int).toNat) (19 - 1) + 0 + 0 = k
  omega

end Cert.ReferenceIdeal.Own

end
-- ==== Proof.RefValue.lean ====
/- The reference's result on real numbers is the loss. -/
module

public import proofs.«01_k».proof.Proof.RefCount

@[expose] public section

noncomputable section

namespace Cert.ReferenceIdeal.Own

open Idealize.ShloMosaic hiding ix0 ix1 ix2 ix3 ix4 ix5
open Idealize.ShloMosaic.ValueIdx Idealize.ShloMosaic.TcCoe Idealize.ShloMosaic.StableHlo
open Cert.ReferenceIdeal Cert.ReferenceIdeal.Gen
open Cert.Msiw (Px best best_spec best_lt sumExp sumExp_pos sqProb weight weight_pos count mass loss)
open scoped BigOperators

/-- The pixels in a row. -/
def pix : Fin 2097152 ≃ Fin 8 × Fin 512 × Fin 512 where
  toFun n := (⟨n.val / 262144, by omega⟩, ⟨n.val / 512 % 512, by omega⟩, ⟨n.val % 512, by omega⟩)
  invFun p := ⟨(p.1.val * 512 + p.2.1.val) * 512 + p.2.2.val, by omega⟩
  left_inv n := Fin.ext (by
    show (n.val / 262144 * 512 + n.val / 512 % 512) * 512 + n.val % 512 = n.val
    omega)
  right_inv p := by
    obtain ⟨b, h, w⟩ := p
    refine Prod.ext (Fin.ext ?_) (Prod.ext (Fin.ext ?_) (Fin.ext ?_))
    · show ((b.val * 512 + h.val) * 512 + w.val) / 262144 = b.val; omega
    · show ((b.val * 512 + h.val) * 512 + w.val) / 512 % 512 = h.val; omega
    · show ((b.val * 512 + h.val) * 512 + w.val) % 512 = w.val; omega

/-- A class is not a negative word. -/
theorem max_word (k : Nat) (hk : k < 19) : IntOp.maxsi (0#32) (BitVec.ofNat 32 k) = BitVec.ofNat 32 k := by
  have h : ∀ k : Fin 19, IntOp.maxsi (0#32) (BitVec.ofNat 32 k.val) = BitVec.ofNat 32 k.val := by decide
  exact h ⟨k, hk⟩

/-- A class is not counted from the end. -/
theorem wrap_word (k : Nat) (hk : k < 19) :
    Scalar.select (IntOp.cmpi .slt (BitVec.ofNat 32 k) (0#32)) (IntOp.addi (BitVec.ofNat 32 k) (19#32)) (BitVec.ofNat 32 k) = BitVec.ofNat 32 k := by
  have h : ∀ k : Fin 19, Scalar.select (IntOp.cmpi .slt (BitVec.ofNat 32 k.val) (0#32)) (IntOp.addi (BitVec.ofNat 32 k.val) (19#32)) (BitVec.ofNat 32 k.val)
    = BitVec.ofNat 32 k.val := by decide
  exact h ⟨k, hk⟩

section
variable (X : Vec Ideal S8x19x512x512 .f32) (L : Fin 8 × Fin 512 × Fin 512 → Px)
  (hX : ∀ b ci h w, X (ix4 b ci h w) = ((L (b, h, w) ci.val : ℝ) : EReal))
include hX

theorem predV1_at (b : Fin 8) (h w : Fin 512) : predV1 X (ix4 b (0 : Fin 1) h w) = BitVec.ofNat 32 (best (L (b, h, w))) := by
  refine (broadcastInDim_apply _ _ _ _ (ix3 b h w) fun a => ?_).trans (predV_at X L hX b h w)
  match a with
  | ⟨0, _⟩ => rfl
  | ⟨1, _⟩ => rfl
  | ⟨2, _⟩ => rfl

theorem flatV_at (n : Fin 2097152) : flatV X (ix1 n) = BitVec.ofNat 32 (best (L (pix n))) := by
  have e : shapeCast S2097152 (predV1 X) shapeCasts_S8x1x512x512_S2097152 (ix1 n) = BitVec.ofNat 32 (best (L (pix n))) := by
    refine (shapeCast_apply _ _ _ (ix4 (pix n).1 (0 : Fin 1) (pix n).2.1 (pix n).2.2) ?_).trans (predV1_at X L hX _ _ _)
    rw [Shape.rowMajor_val_four, Shape.rowMajor_val_one]
    show ((n.val / 262144 * 1 + 0) * 512 + n.val / 512 % 512) * 512 + n.val % 512 = n.val
    omega
  show IntOp.maxsi (0#32) (shapeCast S2097152 (predV1 X) shapeCasts_S8x1x512x512_S2097152 (ix1 n)) = _
  rw [e, max_word _ (best_lt _)]

theorem wrapV_at (n : Fin 2097152) : wrapV X (ix1 n) = BitVec.ofNat 32 (best (L (pix n))) := by
  show Scalar.select (IntOp.cmpi .slt (flatV X (ix1 n)) (0#32)) (IntOp.addi (flatV X (ix1 n)) (19#32)) (flatV X (ix1 n)) = _
  rw [flatV_at X L hX, wrap_word _ (best_lt _)]

theorem wrapV1_at (b : Fin 8) (h w : Fin 512) : wrapV1 X (ix4 b (0 : Fin 1) h w) = BitVec.ofNat 32 (best (L (b, h, w))) := by
  show Scalar.select (IntOp.cmpi .slt (predV1 X (ix4 b (0 : Fin 1) h w)) (0#32)) (IntOp.addi (predV1 X (ix4 b (0 : Fin 1) h w)) (19#32))
    (predV1 X (ix4 b (0 : Fin 1) h w)) = _
  rw [predV1_at X L hX, wrap_word _ (best_lt _)]

/-- The number of the pixels of a class, as a word. -/
theorem histV_at (c : Fin 19) : histV X (ix1 c) = BitVec.ofNat 32 (∑ n : Fin 2097152, if best (L (pix n)) = c.val then 1 else 0) := by
  unfold histV
  refine scatter_hits _ _ _ _ c (fun n => best (L (pix n)) = c.val) (fun n => lands_at _ n c _ (best_lt _) ?_) rfl (fun _ => rfl)
  refine (broadcastInDim_apply _ _ _ _ (ix1 n) fun a => ?_).trans (wrapV_at X L hX n)
  match a with
  | ⟨0, _⟩ => rfl

omit hX in
theorem count_eq (c : Nat) : (((∑ n : Fin 2097152, if best (L (pix n)) = c then 1 else 0 : Nat) : ℝ)) = count L c := by
  rw [Nat.cast_sum, Msiw.count, ← pix.sum_comp]
  refine Finset.sum_congr rfl fun n _ => ?_
  by_cases h : best (L (pix n)) = c
  · rw [if_pos h, if_pos h, Nat.cast_one]
  · rw [if_neg h, if_neg h, Nat.cast_zero]

omit hX in
theorem count_le (c : Nat) : (∑ n : Fin 2097152, if best (L (pix n)) = c then 1 else 0 : Nat) ≤ 2097152 := by
  refine (Finset.sum_le_card_nsmul _ _ 1 fun n _ => ?_).trans ?_
  · split
    · exact le_rfl
    · exact Nat.zero_le _
  · rw [Finset.card_univ, Fintype.card_fin, smul_eq_mul, Nat.mul_one]

/-- The divisor of a class. -/
theorem denV_at (c : Fin 19) : denV X (ix1 c) = ((weight (count L c.val) : ℝ) : EReal) := by
  have hh : sitofp (F := Ideal) .f32 (histV X) (ix1 c) = ((count L c.val : ℝ) : EReal) := by
    show (((histV X (ix1 c)).toInt : ℝ) : EReal) = _
    have hle := count_le L c.val
    rw [histV_at X L hX, Predicate.toInt_ofNat_small _ (by omega), Int.cast_natCast, count_eq]
  show FloatOps.maximumf (F := Ideal) (φ := .f32) ((Ideal.pow (sitofp (F := Ideal) .f32 (histV X) (ix1 c)) (Ideal.ofBits .f32 0x3E4CCCCD#32) : EReal)
    * Ideal.ofBits .f32 0x47DEDC67#32) (Ideal.ofBits .f32 0x3F800000#32) = _
  rw [hh, Msiw.bits_ratio, Msiw.bits_scale, Msiw.bits_one, Ideal.pow_coe_coe, ← EReal.coe_mul, Ideal.maximumf_eq_max, Msiw.coe_max]
  rfl

/-- The divisor of a pixel. -/
theorem denP_at (b : Fin 8) (h w : Fin 512) :
    denP X (ix4 b (0 : Fin 1) h w) = ((weight (count L (best (L (b, h, w)))) : ℝ) : EReal) := by
  unfold denP
  refine (lookup_at _ _ b h w (best (L (b, h, w))) (best_lt _) ?_).trans (denV_at X L hX _)
  refine (broadcastInDim_apply _ _ _ _ (ix4 b (0 : Fin 1) h w) fun a => ?_).trans (wrapV1_at X L hX b h w)
  match a with
  | ⟨0, _⟩ => rfl
  | ⟨1, _⟩ => rfl
  | ⟨2, _⟩ => rfl
  | ⟨3, _⟩ => rfl

theorem termV_at (b : Fin 8) (ci : Fin 19) (h w : Fin 512) : termV X (ix4 b ci h w)
    = ((softmax (L (b, h, w)) ci.val * softmax (L (b, h, w)) ci.val / weight (count L (best (L (b, h, w)))) : ℝ) : EReal) := by
  have hd : broadcastInDim S8x19x512x512 ![0, 1, 2, 3] bcast_S8x1x512x512_S8x19x512x512_0_1_2_3 (denP X) (ix4 b ci h w)
      = ((weight (count L (best (L (b, h, w)))) : ℝ) : EReal) := by
    refine (broadcastInDim_apply _ _ _ _ (ix4 b (0 : Fin 1) h w) fun a => ?_).trans (denP_at X L hX b h w)
    match a with
    | ⟨0, _⟩ => rfl
    | ⟨1, _⟩ => rfl
    | ⟨2, _⟩ => rfl
    | ⟨3, _⟩ => rfl
  have ht : termV X (ix4 b ci h w) = Ideal.div ((probV X (ix4 b ci h w) : EReal) * probV X (ix4 b ci h w))
      (broadcastInDim S8x19x512x512 ![0, 1, 2, 3] bcast_S8x1x512x512_S8x19x512x512_0_1_2_3 (denP X) (ix4 b ci h w)) := rfl
  rw [ht, hd, probV_at X L hX, ← EReal.coe_mul, Msiw.coe_div (weight_pos _).ne']

omit hX in
/-- The terms of a pixel. -/
theorem sum_softmax (f : Px) (d : ℝ) : ∑ ci : Fin 19, softmax f ci.val * softmax f ci.val / d = sqProb f / d := by
  rw [sqProb, Finset.sum_range, Finset.sum_div, Finset.sum_div]
  refine Finset.sum_congr rfl fun ci _ => ?_
  unfold softmax
  rw [div_mul_div_comm]

/-- The sum of all terms. -/
theorem sum_termV : ∑ i, (termV X i : EReal) = ((∑ c ∈ Finset.range 19, mass L c / weight (count L c) : ℝ) : EReal) := by
  refine (sum_idx4 _).trans ?_
  refine (Finset.sum_congr rfl fun b _ => Finset.sum_congr rfl fun ci _ => Finset.sum_congr rfl fun h _ => Finset.sum_congr rfl fun w _ =>
    termV_at X L hX b ci h w).trans ?_
  simp only [← Msiw.coe_sum]
  refine congrArg _ ?_
  rw [Msiw.sum_classes, Fintype.sum_prod_type]
  refine Finset.sum_congr rfl fun b _ => ?_
  rw [Fintype.sum_prod_type, Finset.sum_comm]
  refine Finset.sum_congr rfl fun h _ => ?_
  rw [Finset.sum_comm]
  exact Finset.sum_congr rfl fun w _ => sum_softmax _ _

/-- The reference computes the loss. -/
theorem lossV_eq : lossV X = fun _ => ((loss L : ℝ) : EReal) := by
  funext j
  have hs : Host.reduceAdd (termV X) (constant S_ .f32 0x00000000#32) reducesTo_S8x19x512x512_S_d0_1_2_3 h_S_ j
      = ((∑ c ∈ Finset.range 19, mass L c / weight (count L c) : ℝ) : EReal) := by
    refine (Ideal.hostReduceAdd_total _ (fun b => b.elim0) _ _ _).trans ?_
    rw [sum_termV X L hX]
    have e1 : (constant (F := Ideal) S_ .f32 0x00000000#32) (Shape.Idx.first h_S_) = ((0 : ℝ) : EReal) := Msiw.bits_zero
    rw [e1, EReal.coe_zero, zero_add]
  have hl : lossV X j = Ideal.div (-(Host.reduceAdd (termV X) (constant S_ .f32 0x00000000#32) reducesTo_S8x19x512x512_S_d0_1_2_3 h_S_ j : EReal))
      (Ideal.ofBits .f32 0x43180000#32) := rfl
  rw [hl, hs, Msiw.bits_152, ← EReal.coe_neg, Msiw.coe_div (by norm_num), loss, zero_sub]

end

end Cert.ReferenceIdeal.Own

end
-- ==== Proof.Equation.lean ====
/- The kernel's result is the reference's where every logit is a finite number. -/
module

public import proofs.«01_k».proof.Defs
public import proofs.«01_k».proof.Proof.KernelValue
public import proofs.«01_k».proof.Proof.RefValue
public import proofs.«01_k».proof.Proof.Gen.Pre_finite
public import Idealize.ShloMosaic.Lib.ReduceAll

@[expose] public section

noncomputable section

namespace Cert.Own

open Idealize.ShloMosaic hiding ix0 ix1 ix2 ix3 ix4 ix5
open Idealize.ShloMosaic.ValueIdx Idealize.SL.Sem

/-- A number that is smaller than +∞ in size is real. -/
theorem real_of_abs_lt (x : EReal) (h : max x (-x) < ⊤) : x = ((x.toReal : ℝ) : EReal) := by
  refine (EReal.coe_toReal (fun e => ?_) (fun e => ?_)).symm
  · rw [e] at h; exact absurd h (by simp)
  · rw [e] at h; exact absurd h (by simp)

/-- The precondition says that every logit is a real number. -/
theorem real_of_finite (x : FVec Ideal ⟨4, ![8, 19, 512, 512]⟩ .f32) (h : Cert.Pre_finite.fn (F := Ideal) x = fun _ => 1#1)
    (i : (⟨4, ![8, 19, 512, 512]⟩ : Shape).Idx) : (x i : EReal) = ((EReal.toReal (x i) : ℝ) : EReal) := by
  have hs : Subsingleton Cert.Pre_finite.S_.Idx := ⟨fun a b => funext fun d => d.elim0⟩
  have h1 := Host.reduce_andi_all _ _ _ _ ix0 (congrFun h ix0) i
  have h2 : Ideal.cmp .olt (max (x i : EReal) (-(x i : EReal))) (Ideal.ofBits .f32 0x7F800000#32) = 1#1 := h1
  have ht : Ideal.ofBits .f32 0x7F800000#32 = (⊤ : EReal) := by simp [Ideal.ofBits, Ideal.ieee]
  rw [ht] at h2
  refine real_of_abs_lt _ ?_
  have h3 := (Msiw.ofBool_one _).mp h2
  exact of_decide_eq_true h3

/-- The logits of the pixels. -/
def logits (x : FVec Ideal ⟨4, ![8, 19, 512, 512]⟩ .f32) (p : Fin 8 × Fin 512 × Fin 512) : Msiw.Px := fun c =>
  if h : c < 19 then EReal.toReal (x (ix4 p.1 (⟨c, h⟩ : Fin 19) p.2.1 p.2.2)) else 0

theorem logits_at (x : FVec Ideal ⟨4, ![8, 19, 512, 512]⟩ .f32) (h : Cert.Pre_finite.fn (F := Ideal) x = fun _ => 1#1)
    (b : Fin 8) (ci : Fin 19) (r w : Fin 512) : (x (ix4 b ci r w) : EReal) = ((logits x (b, r, w) ci.val : ℝ) : EReal) := by
  rw [logits, dif_pos ci.isLt]
  exact real_of_finite x h _

/-- Both programs end with the loss. -/
theorem equation : Cert.algebraic_KernelIdeal_ReferenceIdeal_pre_finite := fun m g m' g' hpre hm =>
  ⟨fun c _ => ((Msiw.loss (logits (m ((c.tc : Thread Cert.KernelIdeal.nD Cert.KernelIdeal.τ).loc Cert.KernelIdeal.main_arg0))) : ℝ) : EReal),
    (θ_run _ _ _).mono (fun _ h c => ⟨((h c).1).trans (Cert.KernelIdeal.Own.result_eq m c _ (logits_at _ (hpre c))), (h c).2⟩)
      (Cert.KernelIdeal.Own.run_value m g),
    (θ_run _ _ _).mono (fun _ h c => ⟨((h c).1).trans (Cert.ReferenceIdeal.Own.lossV_eq _ _ (fun b ci r w =>
        (congrFun (hm c) (ix4 b ci r w)).trans (logits_at _ (hpre c) b ci r w))), (h c).2⟩)
      (Cert.ReferenceIdeal.Own.run_main m' g')⟩

end Cert.Own

end
-- ==== Proof.lean ====
/- The proof of the claims: the frames, the named constant and the equation of the two results. -/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  Own.frame_kernel, Own.frame_ideal, Own.frame_ideal_finite, Own.frame_reference, Own.frame_reference_finite, Own.preserves, Own.equation⟩

end Cert.Proof

end
